-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 512]⟩ ⟨2, ![1024, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S512x1 : Shape := ⟨2, ![512, 1]⟩
abbrev S6 : Shape := ⟨1, ![6]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S2x512x1024, .f32⟩
  | .hbm, ⟨3, _⟩ => ⟨S2x1024x512, .f32⟩
  | .hbm, ⟨4, _⟩ => ⟨S512x1, .i32⟩
  | .hbm, ⟨5, _⟩ => ⟨S512x512, .f32⟩
  | .local _ .vmem, ⟨0, _⟩ => ⟨S512x512, .f32⟩
  | .local _ .vmem, ⟨1, _⟩ => ⟨S512x1, .i32⟩
  | .local _ .vmem, ⟨2, _⟩ => ⟨S2x512x1024, .f32⟩
  | .local _ .vmem, ⟨3, _⟩ => ⟨S2x1024x512, .f32⟩
  | .local _ .vmem, ⟨4, _⟩ => ⟨S512x512, .f32⟩
  | .local _ .vmem, ⟨5, _⟩ => ⟨S512x512, .f32⟩
  | .local _ .vmem, ⟨6, _⟩ => ⟨S512x1, .i32⟩
  | .local _ .vmem, ⟨7, _⟩ => ⟨S512x512, .f32⟩
  | .local _ .vmem, ⟨8, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v17 : BitVec 32 := Scalar.muli v2 c4_i32_11
  let v18 : BitVec 32 := Scalar.addi c0_i32_12 v17
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_13 : BitVec 32 := 2#32
  let v19 : BitVec 32 := Scalar.muli v9 c2_i32_13
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v21 : BitVec 32 := Scalar.muli v8 c1_i32_14
  let v22 : BitVec 32 := Scalar.addi v20 v21
  v22.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v27 : BitVec 32 := Scalar.muli v2 c4_i32_16
  let v28 : BitVec 32 := Scalar.addi c0_i32_17 v27
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_18 : BitVec 32 := 2#32
  let v29 : BitVec 32 := Scalar.muli v9 c2_i32_18
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v31 : BitVec 32 := Scalar.muli v8 c1_i32_19
  let v32 : BitVec 32 := Scalar.addi v30 v31
  v32.toNat
def k0_dev4 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v136 : BitVec 32 := Scalar.muli v2 c4_i32_96
  let v137 : BitVec 32 := Scalar.addi c0_i32_97 v136
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_98 : BitVec 32 := 2#32
  let v138 : BitVec 32 := Scalar.muli v9 c2_i32_98
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v140 : BitVec 32 := Scalar.muli v8 c1_i32_99
  let v141 : BitVec 32 := Scalar.addi v139 v140
  v141.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1024x1 : Shape := ⟨2, ![1024, 1]⟩
abbrev S1x1024x512 : Shape := ⟨3, ![1, 1024, 512]⟩

abbrev nBuf : Space → Nat
  | .hbm => 66
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S4x512x1024, .f32⟩
  | .hbm, ⟨3, _⟩ => ⟨S4x1024x512, .f32⟩
  | .hbm, ⟨4, _⟩ => ⟨S_, .f32⟩
  | .hbm, ⟨5, _⟩ => ⟨S1024x512, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S1x512x1024, .f32⟩
  | .hbm, ⟨10, _⟩ => ⟨S512x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1, .i1⟩
  | .hbm, ⟨16, _⟩ => ⟨S1x1024x512, .f32⟩
  | .hbm, ⟨17, _⟩ => ⟨S1024x512, .f32⟩
  | .hbm, ⟨18, _⟩ => ⟨S1024x512, .f32⟩
  | .hbm, ⟨19, _⟩ => ⟨S1024x512, .i1⟩
  | .hbm, ⟨20, _⟩ => ⟨S1024x512, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1x512x1024, .f32⟩
  | .hbm, ⟨25, _⟩ => ⟨S512x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1, .i1⟩
  | .hbm, ⟨31, _⟩ => ⟨S1x1024x512, .f32⟩
  | .hbm, ⟨32, _⟩ => ⟨S1024x512, .f32⟩
  | .hbm, ⟨33, _⟩ => ⟨S1024x512, .f32⟩
  | .hbm, ⟨34, _⟩ => ⟨S1024x512, .i1⟩
  | .hbm, ⟨35, _⟩ => ⟨S1024x512, .f32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1x512x1024, .f32⟩
  | .hbm, ⟨40, _⟩ => ⟨S512x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1, .i1⟩
  | .hbm, ⟨46, _⟩ => ⟨S1x1024x512, .f32⟩
  | .hbm, ⟨47, _⟩ => ⟨S1024x512, .f32⟩
  | .hbm, ⟨48, _⟩ => ⟨S1024x512, .f32⟩
  | .hbm, ⟨49, _⟩ => ⟨S1024x512, .i1⟩
  | .hbm, ⟨50, _⟩ => ⟨S1024x512, .f32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S1x512x1024, .f32⟩
  | .hbm, ⟨55, _⟩ => ⟨S512x1024, .f32⟩
  | .hbm, ⟨56, _⟩ => ⟨S1024x1024, .f32⟩
  | .hbm, ⟨57, _⟩ => ⟨S_, .f32⟩
  | .hbm, ⟨58, _⟩ => ⟨S1024x1024, .f32⟩
  | .hbm, ⟨59, _⟩ => ⟨S1024x1024, .f32⟩
  | .hbm, ⟨60, _⟩ => ⟨S1024x1, .i1⟩
  | .hbm, ⟨61, _⟩ => ⟨S1x1024x512, .f32⟩
  | .hbm, ⟨62, _⟩ => ⟨S1024x512, .f32⟩
  | .hbm, ⟨63, _⟩ => ⟨S1024x512, .f32⟩
  | .hbm, ⟨64, _⟩ => ⟨S1024x512, .i1⟩
  | .hbm, ⟨65, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.KernelIdealProtocol.lean ====
/-
The protocol of the kernel's transfers: who talks to whom, what every semaphore's one unit of news is worth, what it
hands over, and what each device still owes.

Every device talks to one other, its PEER: the device at the same `x` and `z` and the other `y`. Seven semaphores of a
device take part, numbered by `kOf`:

  0  the barrier semaphore — raised by the peer, which hands over its three landing buffers;
  1, 3, 5  the departures of the three copies (tokens, assignments, partial result) — raised by the device's own copy,
           which hands the source back;
  2, 4, 6  their arrivals — raised by the peer's copy, which hands the landing buffer back, filled.

Each is raised once, so the schedule has one duty in round 0 of every such semaphore.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Launch
public import Idealize.ShloMosaic.Lib.Pipeline.Kit
public import Idealize.ShloMosaic.Lib.Rounds
public import Idealize.ShloMosaic.Lib.StableHlo
public import Idealize.ShloMosaic.Lib.Tactic

@[expose] public section

set_option maxRecDepth 16384

noncomputable section

namespace Cert.KernelIdeal.Talk

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state's algebra -/

/-- The pipeline's own records beside those of the kernel's transfers. -/
abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (m : (ℓ : Loc nD τ sig) → Buf (Elt F) ℓ)

abbrev 𝒱₀ : Variants := Variants.none

/-! ## The peer -/

/-- The device at the other `y`. -/
def peer (c : Dev nD) : Dev nD := ⟨k0_dev1 c, k0_dev1_lt c⟩
theorem peer_peer : ∀ c : Dev nD, peer (peer c) = c := by decide +kernel
theorem dev2_peer (c : Dev nD) : (⟨k0_dev2 c, k0_dev2_lt c⟩ : Dev nD) = peer c :=
  Fin.ext ((k0_dev2_eq c).trans (k0_dev1_eq c).symm)
theorem dev3_peer (c : Dev nD) : (⟨k0_dev3 c, k0_dev3_lt c⟩ : Dev nD) = peer c :=
  Fin.ext ((k0_dev3_eq c).trans (k0_dev1_eq c).symm)
theorem dev4_peer (c : Dev nD) : (⟨k0_dev4 c, k0_dev4_lt c⟩ : Dev nD) = peer c :=
  Fin.ext ((k0_dev4_eq c).trans (k0_dev1_eq c).symm)
/-- Going to the peer, as a bijection of the devices. -/
def flip : Dev nD ≃ Dev nD := ⟨peer, peer, peer_peer, peer_peer⟩

/-! ## The semaphores -/

abbrev barS : Sem sig := (SemArray.scalar (sig.barrier 0 rfl) : Sems sig S_).sem
abbrev sem0 : DmaSem sig := ((cc0_scratch4.slice (Rect.unit (s := S6) ![0] S1.size inb_S6_S1_0)).squeeze S_ squeezes_S1_S_).sem
abbrev sem1 : DmaSem sig := ((cc0_scratch4.slice (Rect.unit (s := S6) ![1] S1.size inb_S6_S1_1)).squeeze S_ squeezes_S1_S_).sem
abbrev sem2 : DmaSem sig := ((cc0_scratch4.slice (Rect.unit (s := S6) ![2] S1.size inb_S6_S1_2)).squeeze S_ squeezes_S1_S_).sem
abbrev sem3 : DmaSem sig := ((cc0_scratch4.slice (Rect.unit (s := S6) ![3] S1.size inb_S6_S1_3)).squeeze S_ squeezes_S1_S_).sem
abbrev sem4 : DmaSem sig := ((cc0_scratch4.slice (Rect.unit (s := S6) ![4] S1.size inb_S6_S1_4)).squeeze S_ squeezes_S1_S_).sem
abbrev sem5 : DmaSem sig := ((cc0_scratch4.slice (Rect.unit (s := S6) ![5] S1.size inb_S6_S1_5)).squeeze S_ squeezes_S1_S_).sem

/-- The kernel's own DMA semaphores, in order. -/
abbrev osem : Fin 6 → SemLoc sig := fun | 0 => .dma sem0 | 1 => .dma sem1 | 2 => .dma sem2 | 3 => .dma sem3 | 4 => .dma sem4 | 5 => .dma sem5
/-- All seven semaphores of the protocol. -/
def csem (k : Fin 7) : SemLoc sig := Fin.cases (.reg barS) osem k
/-- A semaphore's number in the protocol. -/
def kOf (sm : SemLoc sig) : Option (Fin 7) := (List.finRange 7).find? fun k => csem k = sm

theorem kOf_csem : ∀ k, kOf (csem k) = some k := by decide
theorem kB : kOf (.reg barS) = some 0 := kOf_csem 0
theorem k0 : kOf (.dma sem0) = some 1 := kOf_csem 1
theorem k1 : kOf (.dma sem1) = some 2 := kOf_csem 2
theorem k2 : kOf (.dma sem2) = some 3 := kOf_csem 3
theorem k3 : kOf (.dma sem3) = some 4 := kOf_csem 4
theorem k4 : kOf (.dma sem4) = some 5 := kOf_csem 5
theorem k5 : kOf (.dma sem5) = some 6 := kOf_csem 6

abbrev cell (c : Dev nD) (sm : SemLoc sig) : GSem nD τ sig := ((c : Thread nD τ), sm)

/-! ## Contents -/

/-- A whole buffer of a device at a share and contents. -/
abbrev pt (c : Dev nD) (b : Ref sig .tc) (q : PosShare TreeShare) (f : b.ty.Contents (Elt F)) : sProp 𝕄 :=
  ((c : Thread nD τ).loc b) ↦{q} f
/-- The same at contents not chosen. -/
abbrev anyAt (c : Dev nD) (b : Ref sig .tc) : sProp 𝕄 := iprop(∃ f : b.ty.Contents (Elt F), pt c b fullShare f)

/-- What the windows bring: the tokens, their assignments, and the two experts' weights. -/
def xs (c : Dev nD) : Vec F S512x512 .f32 := iblk m c 0 t0_0
def asg (c : Dev nD) : Vec F S512x1 .i32 := iblk m c 1 t0_0
def w1 (c : Dev nD) : Vec F S2x512x1024 .f32 := iblk m c 2 t0_0
def w2 (c : Dev nD) : Vec F S2x1024x512 .f32 := iblk m c 3 t0_0

/-- One expert's weights, as the kernel loads them. -/
def w1a (c : Dev nD) : Vec F S1x512x1024 .f32 :=
  (Memref.whole cc0_stg2_0).view.readAt (Elt F) (Rect.unit (s := S2x512x1024) ![0, 0, 0] S1x512x1024.size inb_S2x512x1024_S1x512x1024_0_0_0).toLoadRect (w1 m c)
def w1b (c : Dev nD) : Vec F S1x512x1024 .f32 :=
  (Memref.whole cc0_stg2_0).view.readAt (Elt F) (Rect.unit (s := S2x512x1024) ![1, 0, 0] S1x512x1024.size inb_S2x512x1024_S1x512x1024_1_0_0).toLoadRect (w1 m c)
def w2a (c : Dev nD) : Vec F S1x1024x512 .f32 :=
  (Memref.whole cc0_stg3_0).view.readAt (Elt F) (Rect.unit (s := S2x1024x512) ![0, 0, 0] S1x1024x512.size inb_S2x1024x512_S1x1024x512_0_0_0).toLoadRect (w2 m c)
def w2b (c : Dev nD) : Vec F S1x1024x512 .f32 :=
  (Memref.whole cc0_stg3_0).view.readAt (Elt F) (Rect.unit (s := S2x1024x512) ![1, 0, 0] S1x1024x512.size inb_S2x1024x512_S1x1024x512_1_0_0).toLoadRect (w2 m c)

/-- The device's `y`, the word the kernel computes. -/
abbrev yWord (c : Dev nD) : BitVec 32 := Scalar.remsi (Scalar.divsi (Dev.word c) 2#32) 2#32

/-- The device's two experts on its own tokens. -/
def mineAt (c : Dev nD) : FVec F S512x512 .f32 :=
  k0_pay5 (k0_pay3 (yWord c) (xs m c) (asg m c) (w1a m c) (w2a m c)) (k0_pay4 (yWord c) (xs m c) (asg m c)) (w1b m c) (w2b m c)
/-- The device's two experts on its peer's tokens: what it sends back. -/
def partAt (c : Dev nD) : FVec F S512x512 .f32 :=
  k0_pay8 (k0_pay6 (yWord c) (xs m (peer c)) (asg m (peer c)) (w1a m c) (w2a m c)) (k0_pay7 (yWord c) (xs m (peer c)) (asg m (peer c)) (w1b m c)) (w2b m c)
/-- What the device stores. -/
def outAt (c : Dev nD) : FVec F S512x512 .f32 := k0_pay9 (mineAt m c) (partAt m (peer c))

/-! ## The schedule -/

/-- The units a copy of a token block raises its semaphores by, and one of an assignment block. -/
abbrev Nx : ℕ := (Memref.whole cc0_scratch0 : Memref sig .tc .vmem S512x512 .f32).view.dmaCredit
abbrev Na : ℕ := (Memref.whole cc0_scratch1 : Memref sig .tc .vmem S512x1 .i32).view.dmaCredit
theorem Nx_pos : 0 < Nx := View.dmaCredit_pos _ (by decide)
theorem Na_pos : 0 < Na := View.dmaCredit_pos _ (by decide)

/-- The units each semaphore is raised by. -/
def amt : Fin 7 → ℕ | 0 => 1 | 1 => Nx | 2 => Nx | 3 => Na | 4 => Na | 5 => Nx | 6 => Nx
theorem amt_pos : ∀ k, 0 < amt k
  | 0 => Nat.one_pos | 1 => Nx_pos | 2 => Nx_pos | 3 => Na_pos | 4 => Na_pos | 5 => Nx_pos | 6 => Nx_pos

/-- What each semaphore's raise hands to its owner `c`. -/
def pay (c : Dev nD) : Fin 7 → sProp 𝕄
  | 0 => iprop(anyAt (peer c) cc0_scratch0 ∗ anyAt (peer c) cc0_scratch1 ∗ anyAt (peer c) cc0_scratch3
      ∗ reached ER (cell (peer c) (.dma sem1)) 0 ∗ reached ER (cell (peer c) (.dma sem3)) 0 ∗ reached ER (cell (peer c) (.dma sem5)) 0)
  | 1 => pt c cc0_stg0_0 fullShare.left (xs m c)
  | 2 => pt c cc0_scratch0 fullShare (xs m (peer c))
  | 3 => pt c cc0_stg1_0 fullShare.left (asg m c)
  | 4 => pt c cc0_scratch1 fullShare (asg m (peer c))
  | 5 => pt c cc0_scratch2 fullShare (partAt m c)
  | 6 => pt c cc0_scratch3 fullShare (partAt m (peer c))

instance pay_storable (c : Dev nD) (k : Fin 7) : BI.Storable (upEmb : UEmb _ 𝕄) (pay m c k) := by
  fin_cases k <;> (dsimp only [pay]; infer_instance)

/-- One duty in round 0 of every semaphore of the protocol. -/
def rd : Rounds.Schedule (GSem nD τ sig) Unit 𝕄 where
  duties g r := if r = 0 ∧ g.1.2 = .tc ∧ (kOf g.2).isSome then {()} else ∅
  unitless _ := False
  amount g _ _ := ((kOf g.2).map amt).getD 1
  payload g _ _ := (kOf g.2).elim iprop(emp) (pay m g.1.1)
  amount_pos g _ _ _ := by
    cases kOf g.2 with
    | none => exact Nat.one_pos
    | some k => exact amt_pos k

instance rd_payload_storable (g : GSem nD τ sig) (r : ℕ) (d : Unit) :
    BI.Storable (upEmb : UEmb _ 𝕄) ((rd (F := F) m).payload g r d) := by
  show BI.Storable upEmb ((kOf g.2).elim iprop(emp) (pay m g.1.1))
  cases kOf g.2 <;> (dsimp only [Option.elim]; infer_instance)

section Sched

variable {sm : SemLoc sig} {k : Fin 7} (hk : kOf sm = some k) (c : Dev nD)

include hk

theorem duties_at : (rd (F := F) m).duties (cell c sm) 0 = {()} := by
  dsimp only [rd]; rw [hk]; exact if_pos ⟨rfl, rfl, rfl⟩
theorem amount_at : (rd (F := F) m).amount (cell c sm) 0 () = amt k := by
  dsimp only [rd]; rw [hk]; rfl
theorem payload_at : (rd (F := F) m).payload (cell c sm) 0 () = pay m c k := by
  dsimp only [rd]; rw [hk]; rfl
theorem expect_at : (rd (F := F) m).expect (cell c sm) 0 = amt k := by
  unfold Schedule.expect Schedule.amountOf; rw [duties_at m hk, Finset.sum_singleton, amount_at m hk]
theorem rest_at : bigSep ((rd (F := F) m).duties (cell c sm) 0 \ ∅) (fun u => (rd (F := F) m).payload (cell c sm) 0 u) = pay m c k := by
  rw [Finset.sdiff_empty, duties_at m hk, bigSep_singleton, payload_at m hk]

end Sched

theorem duties_later (g : GSem nD τ sig) : ∀ r, 0 + 1 ≤ r → (rd (F := F) m).duties g r = ∅ :=
  fun r hr => by dsimp only [rd]; rw [if_neg (fun h => by omega)]

/-! ## Debts and levels -/

/-- The debts in the order they are paid: the barrier unit, the tokens' arrival, the assignments', the partial result's. -/
def O₃ (c : Dev nD) : CellTallies nD τ sig Unit := tallyAt (cell (peer c) (.dma sem5)) () Nx
def O₂ (c : Dev nD) : CellTallies nD τ sig Unit := O₃ c + tallyAt (cell (peer c) (.dma sem3)) () Na
def O₁ (c : Dev nD) : CellTallies nD τ sig Unit := O₂ c + tallyAt (cell (peer c) (.dma sem1)) () Nx
def O₀ (c : Dev nD) : CellTallies nD τ sig Unit := O₁ c + tallyAt (cell (peer c) (.reg barS)) () 1

def L (g : GSem nD τ sig) : Finset Unit := if g.1.2 = .tc then {()} else ∅
/-- A semaphore's level: a device waits only below everything it still owes. -/
def lvl : Fin 7 → ℕ | 0 => 1 | 1 => 0 | 2 => 2 | 3 => 0 | 4 => 2 | 5 => 0 | 6 => 3
def lv (g : GSem nD τ sig) (_ : Unit) : ℕ := ((kOf g.2).map lvl).getD 0

theorem L_of_ne (g : GSem nD τ sig) (h : g.1.2 ≠ .tc) : L g = ∅ := if_neg h
theorem L_tc (c : Dev nD) (sm : SemLoc sig) : L (cell c sm) = {()} := if_pos rfl
theorem lv_at {sm : SemLoc sig} {k : Fin 7} (hk : kOf sm = some k) (c : Dev nD) (u : Unit) : lv (cell c sm) u = lvl k := by
  unfold lv; dsimp only; rw [hk]; rfl

/-- Everything of a tally lies on device semaphores of level above `b`. -/
def Above (b : ℕ) (O : CellTallies nD τ sig Unit) : Prop := ∀ g u, 0 < O g u → () ∈ L g ∧ b < lv g u

theorem above_zero (b : ℕ) : Above b 0 := fun g u h => absurd h (Nat.lt_irrefl 0)
theorem above_tally {sm : SemLoc sig} {k : Fin 7} (hk : kOf sm = some k) (b : ℕ) (hb : b < lvl k) (c : Dev nD) (n : ℕ) :
    Above b (tallyAt (cell c sm) () n) := fun g u h => by
  rw [tallyAt_apply] at h
  split at h
  · next e => rw [e.1, L_tc, lv_at hk]; exact ⟨Finset.mem_singleton_self _, hb⟩
  · exact absurd h (Nat.lt_irrefl 0)
theorem above_add {b : ℕ} {O P : CellTallies nD τ sig Unit} (hO : Above b O) (hP : Above b P) : Above b (O + P) := fun g u h => by
  rw [Pi.add_apply, Finsupp.add_apply] at h
  rcases Nat.add_pos_iff_pos_or_pos.mp h with h | h
  · exact hO g u h
  · exact hP g u h
theorem above_O₃ (b : ℕ) (hb : b < 3) (c : Dev nD) : Above b (O₃ c) := above_tally k5 b hb _ _
theorem above_O₁ (b : ℕ) (hb : b < 2) (c : Dev nD) : Above b (O₁ c) :=
  above_add (above_add (above_O₃ b (by omega) c) (above_tally k3 b hb _ _)) (above_tally k1 b hb _ _)
theorem above_O₀ (c : Dev nD) : Above 0 (O₀ c) := above_add (above_O₁ 0 (by omega) c) (above_tally kB 0 (by decide) _ _)

theorem mayWait {sm : SemLoc sig} {k : Fin 7} (hk : kOf sm = some k) (c : Dev nD) {O : CellTallies nD τ sig Unit} (hO : Above (lvl k) O) :
    (levAts L lv : sProp 𝕄) ⊢ MayWait (c : Thread nD τ) sm () O :=
  MayOwe.of_cut (L := L) (lev := lv) (lvl k) (fun p hp => by rw [Finset.mem_singleton.mp hp]; exact (L_tc c sm) ▸ Finset.mem_singleton_self _)
    (fun g u hg => (hO g u hg).1)
    (fun p hp => by rw [Finset.mem_singleton.mp hp]; exact le_of_eq (lv_at hk c ()))
    (fun g u hg => (hO g u hg).2)

/-- What the core owes, whatever waits are on record. -/
abbrev owed (c : Dev nD) (O : CellTallies nD τ sig Unit) : sProp 𝕄 := iprop(∃ W, owes (c : Thread nD τ) O W)

/-! ## The three steps -/

/-- A wait on a semaphore of the protocol for its one round: what its raise hands over is the core's. -/
theorem wait_cell (c : Dev nD) {sm : SemLoc sig} {k : Fin 7} (hk : kOf sm = some k) {w : TpuEff nD τ sig (Elt F) Λ₀ .tc PUnit} {n : ℕ}
    (hw : ∀ K : PUnit → sProp 𝕄, wpE (defs₀ (F := F)) 𝒱₀ (c : Thread nD τ) none Set.univ w K = waitSpec (c : Thread nD τ) Set.univ sm n K)
    (hn : n = amt k) (κ : ℕ) {O : CellTallies nD τ sig Unit} (hO : Above (lvl k) O)
    {α : Type} {Q : α → sProp 𝕄} {kt : PUnit → Prog (TpuEff nD τ sig (Elt F) Λ₀ .tc) α} :
    iprop(cellInv ER (rd m) κ (cell c sm) ∗ cred (tallyAt (cell c sm) () (amt k)) ∗ owed c O ∗ levAts L lv ∗ atPos ER (cell c sm) 0 ∅ 0)
      ⊢ iprop(((owed c O ∗ atPos ER (cell c sm) (0 + 1) ∅ 0 ∗ pay m c k)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  subst hn
  iintro ⟨#HI, Hc, ⟨%W, HO⟩, #Hlev, Hat⟩ Hk
  iapply (Rounds.wp_wait_rest_token 𝒱₀ ER (rd m) (c : Thread nD τ) none (κ := κ) hw (Set.mem_univ _) () (O := O) (W := W) (R := 0) (m := 0) (T := ∅)
      ((Nat.zero_add _).trans (expect_at m hk c).symm)) $$ [Hc HO Hat]
  · isplitr; · iexact HI
    isplitl [Hc]; · iexact Hc
    isplitl [HO]; · iexact HO
    isplitr; · iapply (mayWait hk c hO); iexact Hlev
    iexact Hat
  iintro ⟨HO, Hat, -, Hp⟩
  ihave Hp := (Entails.of_eq (rest_at m hk c)) $$ Hp
  iapply Hk
  isplitl [HO]; · iexists _; iexact HO
  isplitl [Hat] <;> iassumption

/-- A copy of a whole buffer into a whole buffer of the peer: it pays the departure with the source's share and the
    arrival with the landing buffer holding what the source held. -/
theorem send_peer (c n : Dev nD) (hn : n = peer c) {sp sp' : Space} {s : Shape} {e : EltTy}
    {src : Memref sig .tc sp s e} {dst : Memref sig .tc sp' s e} {hsc : dst.view.ref.isScScratch = false}
    {sS sR : SemLoc sig} {kS kR : Fin 7} (hS : kOf sS = some kS) (hR : kOf sR = some kR)
    {hsrc : src.view.WordExact} {hdst : dst.view.WordExact}
    {hsem : DmaTarget.Typed sp sR (.remote (Dev.tc n : Thread nD τ) dst sS hsc)}
    (hss : src.view.set = Finset.univ) (hds : dst.view.set = Finset.univ)
    {q : PosShare TreeShare} {fs : Buf (Elt F) (src.view.loc (c : Thread nD τ))} {fd : Buf (Elt F) (dst.view.loc (peer c : Thread nD τ))}
    (hN : dst.view.amount sR = amt kR) (hSR : amt kS = amt kR)
    (hpS : (src.view.loc (c : Thread nD τ) ↦{q} fs) ⊢ pay m c kS)
    (hpR : (dst.view.loc (peer c : Thread nD τ) ↦{fullShare} dst.view.write (Elt F) fd (src.view.read (Elt F) fs) Finset.univ) ⊢ pay m (peer c) kR)
    (κ₁ κ₂ : ℕ) {O' : CellTallies nD τ sig Unit} (O : CellTallies nD τ sig Unit) (hO : O' = O + tallyAt (cell (peer c) sR) () (amt kR))
    {α : Type} {Q : α → sProp 𝕄} {kt : PUnit → Prog (TpuEff nD τ sig (Elt F) Λ₀ .tc) α} :
    iprop(cellInv ER (rd m) κ₁ (cell c sS) ∗ cellInv ER (rd m) κ₂ (cell (peer c) sR)
        ∗ (src.view.loc (c : Thread nD τ) ↦{q} fs) ∗ (dst.view.loc (peer c : Thread nD τ) ↦{fullShare} fd) ∗ owed c O'
        ∗ dutyTok ER (cell c sS) 0 () ∗ reached ER (cell c sS) 0 ∗ dutyTok ER (cell (peer c) sR) 0 () ∗ reached ER (cell (peer c) sR) 0)
      ⊢ iprop(((cred (tallyAt (cell c sS) () (amt kS)) ∗ owed c O)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) dst sS hsc) sR hsrc hdst hsem) kt) Q) := by
  subst hn
  iintro ⟨#H1, #H2, Hs, Hd, ⟨%W, HO⟩, Ht1, #Hr1, Ht2, #Hr2⟩ Hk
  iapply (Rounds.wp_send_pointsTo 𝒱₀ ER (rd m) (c : Thread nD τ) none (c' := (peer c : Thread nD τ)) (src := src) (dst := dst)
      (sS := sS) (sem := sR) (q := q) (fs := fs) (fd := fd) (κ₁ := κ₁) (κ₂ := κ₂) (r₁ := 0) (r₂ := 0) (d₁ := ()) (d₂ := ())
      (by rw [duties_at m hS]; exact Finset.mem_singleton_self _) (by rw [duties_at m hR]; exact Finset.mem_singleton_self _)
      () () (amt kR) hN ((amount_at m hS c).trans hSR) (amount_at m hR (peer c)) O hO (W := W)
      (by rw [payload_at m hS, hss]; exact hpS) (by rw [payload_at m hR, hds]; exact hpR)) $$ [Hs Hd HO Ht1 Ht2]
  · isplitr; · iexact H1
    isplitr; · iexact H2
    isplitl [Hs]; · rw [hss]; iexact Hs
    isplitl [Hd]; · rw [hds]; iexact Hd
    isplitl [HO]; · iexact HO
    isplitl [Ht1]; · iexact Ht1
    isplitr; · iexact Hr1
    isplitl [Ht2]; · iexact Ht2
    iexact Hr2
  iintro ⟨Hc, HO⟩
  iapply Hk
  rw [hSR]
  isplitl [Hc]; · iexact Hc
  iexists _; iexact HO

/-- A semaphore past its one round: its counter is the core's again, at zero. -/
theorem close_cell (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

end Cert.KernelIdeal.Talk

end
-- ==== Proof.KernelIdealBody.lean ====
/-
The kernel's body on one device, followed step by step from what the device holds when the pipeline calls it to what it
holds afterwards: the result's staging buffer at the sum of the device's own part and its peer's.
-/
module

public import proofs.«01_k».proof.Proof.KernelIdealProtocol

@[expose] public section

set_option maxRecDepth 16384

noncomputable section

namespace Cert.KernelIdeal.Talk

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device holds -/

/-- The invariants a device uses: its own seven semaphores', and its peer's barrier and arrivals. -/
def invs (K : GSem nD τ sig → ℕ) (c : Dev nD) : sProp 𝕄 :=
  iprop((cellInv ER (rd m) (K (cell c (.reg barS))) (cell c (.reg barS))
      ∗ cellInv ER (rd m) (K (cell c (.dma sem0))) (cell c (.dma sem0)) ∗ cellInv ER (rd m) (K (cell c (.dma sem1))) (cell c (.dma sem1))
      ∗ cellInv ER (rd m) (K (cell c (.dma sem2))) (cell c (.dma sem2)) ∗ cellInv ER (rd m) (K (cell c (.dma sem3))) (cell c (.dma sem3))
      ∗ cellInv ER (rd m) (K (cell c (.dma sem4))) (cell c (.dma sem4)) ∗ cellInv ER (rd m) (K (cell c (.dma sem5))) (cell c (.dma sem5)))
    ∗ cellInv ER (rd m) (K (cell (peer c) (.reg barS))) (cell (peer c) (.reg barS))
    ∗ cellInv ER (rd m) (K (cell (peer c) (.dma sem1))) (cell (peer c) (.dma sem1))
    ∗ cellInv ER (rd m) (K (cell (peer c) (.dma sem3))) (cell (peer c) (.dma sem3))
    ∗ cellInv ER (rd m) (K (cell (peer c) (.dma sem5))) (cell (peer c) (.dma sem5)))

instance invs_persistent (K : GSem nD τ sig → ℕ) (c : Dev nD) : BI.Persistent (invs m K c) := by unfold invs; infer_instance

/-- The rights to raise: the peer's barrier and arrivals, the own departures. -/
def toks (c : Dev nD) : sProp 𝕄 :=
  iprop(dutyTok ER (cell (peer c) (.reg barS)) 0 () ∗ dutyTok ER (cell (peer c) (.dma sem1)) 0 () ∗ dutyTok ER (cell (peer c) (.dma sem3)) 0 ()
    ∗ dutyTok ER (cell (peer c) (.dma sem5)) 0 ()
    ∗ dutyTok ER (cell c (.dma sem0)) 0 () ∗ dutyTok ER (cell c (.dma sem2)) 0 () ∗ dutyTok ER (cell c (.dma sem4)) 0 ())

/-- What the waits for the peer's raises spend. -/
def creds (c : Dev nD) : sProp 𝕄 :=
  iprop(cred (tallyAt (cell c (.reg barS)) () 1) ∗ cred (tallyAt (cell c (.dma sem1)) () Nx) ∗ cred (tallyAt (cell c (.dma sem3)) () Na)
    ∗ cred (tallyAt (cell c (.dma sem5)) () Nx))

/-- The device's place on its own seven semaphores, and what it knows of the rounds reached. -/
def places (c : Dev nD) : sProp 𝕄 :=
  iprop((atPos ER (cell c (.reg barS)) 0 ∅ 0
      ∗ (atPos ER (cell c (.dma sem0)) 0 ∅ 0 ∗ reached ER (cell c (.dma sem0)) 0) ∗ (atPos ER (cell c (.dma sem1)) 0 ∅ 0 ∗ reached ER (cell c (.dma sem1)) 0)
      ∗ (atPos ER (cell c (.dma sem2)) 0 ∅ 0 ∗ reached ER (cell c (.dma sem2)) 0) ∗ (atPos ER (cell c (.dma sem3)) 0 ∅ 0 ∗ reached ER (cell c (.dma sem3)) 0)
      ∗ (atPos ER (cell c (.dma sem4)) 0 ∅ 0 ∗ reached ER (cell c (.dma sem4)) 0) ∗ (atPos ER (cell c (.dma sem5)) 0 ∅ 0 ∗ reached ER (cell c (.dma sem5)) 0))
    ∗ reached ER (cell (peer c) (.reg barS)) 0)

/-- The windows' staging buffers with what the pipeline fetched. -/
def fetched (c : Dev nD) : sProp 𝕄 :=
  iprop(pt c cc0_stg0_0 fullShare (xs m c) ∗ pt c cc0_stg1_0 fullShare (asg m c) ∗ pt c cc0_stg2_0 fullShare (w1 m c) ∗ pt c cc0_stg3_0 fullShare (w2 m c))
/-- The kernel's own four buffers, at contents not chosen. -/
def scratch (c : Dev nD) : sProp 𝕄 :=
  iprop(anyAt c cc0_scratch0 ∗ anyAt c cc0_scratch1 ∗ anyAt c cc0_scratch2 ∗ anyAt c cc0_scratch3)

/-- The own DMA semaphores back at zero. -/
def zeros (c : Dev nD) : sProp 𝕄 :=
  iprop(semVal (cell c (.dma sem0)) 0 ∗ semVal (cell c (.dma sem1)) 0 ∗ semVal (cell c (.dma sem2)) 0 ∗ semVal (cell c (.dma sem3)) 0
    ∗ semVal (cell c (.dma sem4)) 0 ∗ semVal (cell c (.dma sem5)) 0)

def bodyPre (K : GSem nD τ sig → ℕ) (c : Dev nD) : sProp 𝕄 :=
  iprop(invs m K c ∗ places c ∗ toks c ∗ creds c ∗ levAts L lv ∗ scratch c ∗ fetched m c ∗ anyAt c cc0_stg4_0 ∗ owed c (O₀ c))
def bodyPost (c : Dev nD) : sProp 𝕄 :=
  iprop(semVal (cell c (.reg barS)) 0 ∗ zeros c ∗ scratch c ∗ fetched m c ∗ pt c cc0_stg4_0 fullShare (outAt m c) ∗ owed c 0)

/-! ## Reading and writing whole buffers -/

theorem zero2 : (![0, 0] : Fin 2 → ℕ) = fun _ => 0 := by funext a; fin_cases a <;> rfl

theorem halves (c : Dev nD) (b : Ref sig .tc) (f : b.ty.Contents (Elt F)) :
    (pt c b fullShare f : sProp 𝕄) ⊣⊢ iprop(pt c b fullShare.left f ∗ pt c b fullShare.right f) :=
  pointsTo_share (PosShare.mem_left_op_right fullShare)

/-- What a copy of one whole buffer leaves in another is what the first held. -/
theorem landed_x (fd : Vec F S512x512 .f32) (fs : Vec F S512x512 .f32) :
    (Memref.whole cc0_scratch0).view.write (Elt F) fd ((Memref.whole cc0_stg0_0).view.read (Elt F) fs) Finset.univ = fs := by
  show (View.whole cc0_scratch0).write (Elt F) fd ((View.whole cc0_stg0_0).read (Elt F) fs) Finset.univ = fs
  rw [View.read_whole]; exact View.write_whole_univ _ _ _
theorem landed_a (fd : Vec F S512x1 .i32) (fs : Vec F S512x1 .i32) :
    (Memref.whole cc0_scratch1).view.write (Elt F) fd ((Memref.whole cc0_stg1_0).view.read (Elt F) fs) Finset.univ = fs := by
  show (View.whole cc0_scratch1).write (Elt F) fd ((View.whole cc0_stg1_0).read (Elt F) fs) Finset.univ = fs
  rw [View.read_whole]; exact View.write_whole_univ _ _ _
theorem landed_p (fd : Vec F S512x512 .f32) (fs : Vec F S512x512 .f32) :
    (Memref.whole cc0_scratch3).view.write (Elt F) fd ((Memref.whole cc0_scratch2).view.read (Elt F) fs) Finset.univ = fs := by
  show (View.whole cc0_scratch3).write (Elt F) fd ((View.whole cc0_scratch2).read (Elt F) fs) Finset.univ = fs
  rw [View.read_whole]; exact View.write_whole_univ _ _ _

theorem read_sx (f : Vec F S512x512 .f32) : (Memref.whole cc0_stg0_0).view.readAt (Elt F)
    (Rect.unit (s := S512x512) ![0, 0] S512x512.size inb_S512x512_S512x512_0_0).toLoadRect f = f := Memref.readAt_unit_zero (Elt F) cc0_stg0_0 zero2 _ f
theorem read_sa (f : Vec F S512x1 .i32) : (Memref.whole cc0_stg1_0).view.readAt (Elt F)
    (Rect.unit (s := S512x1) ![0, 0] S512x1.size inb_S512x1_S512x1_0_0).toLoadRect f = f := Memref.readAt_unit_zero (Elt F) cc0_stg1_0 zero2 _ f
theorem read_lx (f : Vec F S512x512 .f32) : (Memref.whole cc0_scratch0).view.readAt (Elt F)
    (Rect.unit (s := S512x512) ![0, 0] S512x512.size inb_S512x512_S512x512_0_0).toLoadRect f = f := Memref.readAt_unit_zero (Elt F) cc0_scratch0 zero2 _ f
theorem read_la (f : Vec F S512x1 .i32) : (Memref.whole cc0_scratch1).view.readAt (Elt F)
    (Rect.unit (s := S512x1) ![0, 0] S512x1.size inb_S512x1_S512x1_0_0).toLoadRect f = f := Memref.readAt_unit_zero (Elt F) cc0_scratch1 zero2 _ f
theorem read_lp (f : Vec F S512x512 .f32) : (Memref.whole cc0_scratch3).view.readAt (Elt F)
    (Rect.unit (s := S512x512) ![0, 0] S512x512.size inb_S512x512_S512x512_0_0).toLoadRect f = f := Memref.readAt_unit_zero (Elt F) cc0_scratch3 zero2 _ f
theorem write_part (f w : Vec F S512x512 .f32) : ((Memref.whole cc0_scratch2).access
    (Rect.unit (s := S512x512) ![0, 0] S512x512.size inb_S512x512_S512x512_0_0) : View sig .tc _ _ _).write (Elt F) f w Finset.univ = w :=
  Memref.write_access_unit_zero_univ (Elt F) cc0_scratch2 zero2 _ f w
theorem write_out (f w : Vec F S512x512 .f32) : ((Memref.whole cc0_stg4_0).access
    (Rect.unit (s := S512x512) ![0, 0] S512x512.size inb_S512x512_S512x512_0_0) : View sig .tc _ _ _).write (Elt F) f w Finset.univ = w :=
  Memref.write_access_unit_zero_univ (Elt F) cc0_stg4_0 zero2 _ f w

/-! ## The body -/

set_option maxHeartbeats 2000000 in
theorem body_run (K : GSem nD τ sig → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4) Kt := by
  simp only [cc0_body_eq_skeleton]; unfold cc0_body_skel
  simp only [k0_part5_eq_skeleton]; unfold k0_part5_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [semSignalWord, semWaitWord, Prog.lift, Prog.bind_op, Prog.bind_ret, Prog.pure_eq_ret, wp_deviceId]
  rw [show (⟨k0_dev1 c, k0_dev1_lt c⟩ : Dev nD) = peer c from rfl]
  unfold bodyPre invs places toks creds scratch fetched
  iintro ⟨⟨⟨⟨#IB, #I0, #I1, #I2, #I3, #I4, #I5⟩, #JB, #J1, #J3, #J5⟩,
    ⟨⟨AB, ⟨A0, #R0⟩, ⟨A1, #R1⟩, ⟨A2, #R2⟩, ⟨A3, #R3⟩, ⟨A4, #R4⟩, ⟨A5, #R5⟩⟩, #RB⟩,
    ⟨TB, T1, T3, T5, T0, T2, T4⟩, ⟨CB, C1, C3, C5⟩, #Hlev, ⟨S0, S1, S2, S3⟩, ⟨X, A, W1, W2⟩, Out, ⟨%W, HO⟩⟩, Hk⟩
  -- the signal to the peer's barrier: the three landing buffers with it
  iapply (Rounds.wp_signal 𝒱₀ ER (rd m) (c : Thread nD τ) none (dst := (peer c : Thread nD τ)) (sem := barS) (r := 0) (d := ())
      (κ := K (cell (peer c) (.reg barS))) (by rw [duties_at m kB]; exact Finset.mem_singleton_self _) (amount_at m kB (peer c)) () (O₁ c) rfl)
    $$ [HO TB S0 S1 S3]
  · isplitr; · iexact JB
    isplitl [HO]; · iexact HO
    isplitl [TB]; · iexact TB
    isplitl [S0 S1 S3]
    · rw [payload_at m kB]; dsimp only [pay]; rw [peer_peer]
      isplitl [S0]; · iexact S0
      isplitl [S1]; · iexact S1
      isplitl [S3]; · iexact S3
      isplitr; · iexact R1
      isplitr; · iexact R3
      iexact R5
    · iexact RB
  iintro HO
  -- the wait on the own barrier: the peer's landing buffers
  iapply (wait_cell m c kB (wpE_semWait_eq 𝒱₀ (c : Thread nD τ) none Set.univ) rfl (K (cell c (.reg barS))) (above_O₁ 1 (by omega) c)) $$ [CB HO AB]
  · isplitr; · iexact IB
    isplitl [CB]; · iexact CB
    isplitl [HO]; · iexists _; iexact HO
    isplitr; · iexact Hlev
    iexact AB
  dsimp only [pay]
  iintro ⟨HO, AB, ⟨%f0, P0⟩, ⟨%f1, P1⟩, ⟨%f3, P3⟩, #Q1, #Q3, #Q5⟩
  -- the tokens to the peer, from half of the staging buffer
  icases (halves c cc0_stg0_0 (xs m c)).1 $$ X with ⟨Xl, Xr⟩
  iapply (send_peer m c _ (dev2_peer c) (src := Memref.whole cc0_stg0_0) (dst := Memref.whole cc0_scratch0) k0 k1 (View.set_whole _) (View.set_whole _)
      (q := fullShare.left) (fs := xs m c) (fd := f0) rfl rfl (BI.Entails.refl _)
      (Entails.of_eq (by rw [landed_x]; dsimp only [pay]; rw [peer_peer]))
      (K (cell c (.dma sem0))) (K (cell (peer c) (.dma sem1))) (O₂ c) rfl) $$ [Xl P0 HO T0 T1]
  · isplitr; · iexact I0
    isplitr; · iexact J1
    isplitl [Xl]; · iexact Xl
    isplitl [P0]; · iexact P0
    isplitl [HO]; · iexact HO
    isplitl [T0]; · iexact T0
    isplitr; · iexact R0
    isplitl [T1]; · iexact T1
    iexact Q1
  iintro ⟨C0, HO⟩
  -- the assignments to the peer, likewise
  icases (halves c cc0_stg1_0 (asg m c)).1 $$ A with ⟨Al, Ar⟩
  iapply (send_peer m c _ (dev3_peer c) (src := Memref.whole cc0_stg1_0) (dst := Memref.whole cc0_scratch1) k2 k3 (View.set_whole _) (View.set_whole _)
      (q := fullShare.left) (fs := asg m c) (fd := f1) rfl rfl (BI.Entails.refl _)
      (Entails.of_eq (by rw [landed_a]; dsimp only [pay]; rw [peer_peer]))
      (K (cell c (.dma sem2))) (K (cell (peer c) (.dma sem3))) (O₃ c) rfl) $$ [Al P1 HO T2 T3]
  · isplitr; · iexact I2
    isplitr; · iexact J3
    isplitl [Al]; · iexact Al
    isplitl [P1]; · iexact P1
    isplitl [HO]; · iexact HO
    isplitl [T2]; · iexact T2
    isplitr; · iexact R2
    isplitl [T3]; · iexact T3
    iexact Q3
  iintro ⟨C2, HO⟩
  -- the own part, from the other halves
  iapply (wp_load 𝒱₀ (c : Thread nD τ) none Set.univ (m := Memref.whole cc0_stg0_0) (Finset.subset_univ _)) $$ Xr; iintro Xr
  rw [read_sx]
  iapply (wp_load 𝒱₀ (c : Thread nD τ) none Set.univ (m := Memref.whole cc0_stg1_0) (Finset.subset_univ _)) $$ Ar; iintro Ar
  rw [read_sa]
  iapply (wp_load 𝒱₀ (c : Thread nD τ) none Set.univ (m := Memref.whole cc0_stg2_0) (Finset.subset_univ _)) $$ W1; iintro W1
  iapply (wp_load 𝒱₀ (c : Thread nD τ) none Set.univ (m := Memref.whole cc0_stg3_0) (Finset.subset_univ _)) $$ W2; iintro W2
  iapply (wp_load 𝒱₀ (c : Thread nD τ) none Set.univ (m := Memref.whole cc0_stg2_0) (Finset.subset_univ _)) $$ W1; iintro W1
  iapply (wp_load 𝒱₀ (c : Thread nD τ) none Set.univ (m := Memref.whole cc0_stg3_0) (Finset.subset_univ _)) $$ W2; iintro W2
  -- both first copies have left and both of the peer's have come
  iapply (wait_cell m c k0 (wpE_waitDma2_eq (src := Memref.whole cc0_scratch0) (dst := Memref.whole cc0_stg0_0) 𝒱₀ (c : Thread nD τ) none Set.univ) rfl (K (cell c (.dma sem0))) (above_O₃ 0 (by omega) c)) $$ [C0 HO A0]
  · isplitr; · iexact I0
    isplitl [C0]; · iexact C0
    isplitl [HO]; · iexact HO
    isplitr; · iexact Hlev
    iexact A0
  dsimp only [pay]
  iintro ⟨HO, A0, Xl⟩
  iapply (wait_cell m c k1 (wpE_waitDma2_eq (src := Memref.whole cc0_stg0_0) (dst := Memref.whole cc0_scratch0) 𝒱₀ (c : Thread nD τ) none Set.univ) rfl (K (cell c (.dma sem1))) (above_O₃ 2 (by omega) c)) $$ [C1 HO A1]
  · isplitr; · iexact I1
    isplitl [C1]; · iexact C1
    isplitl [HO]; · iexact HO
    isplitr; · iexact Hlev
    iexact A1
  dsimp only [pay]
  iintro ⟨HO, A1, S0⟩
  iapply (wait_cell m c k2 (wpE_waitDma2_eq (src := Memref.whole cc0_scratch1) (dst := Memref.whole cc0_stg1_0) 𝒱₀ (c : Thread nD τ) none Set.univ) rfl (K (cell c (.dma sem2))) (above_O₃ 0 (by omega) c)) $$ [C2 HO A2]
  · isplitr; · iexact I2
    isplitl [C2]; · iexact C2
    isplitl [HO]; · iexact HO
    isplitr; · iexact Hlev
    iexact A2
  dsimp only [pay]
  iintro ⟨HO, A2, Al⟩
  iapply (wait_cell m c k3 (wpE_waitDma2_eq (src := Memref.whole cc0_stg1_0) (dst := Memref.whole cc0_scratch1) 𝒱₀ (c : Thread nD τ) none Set.univ) rfl (K (cell c (.dma sem3))) (above_O₃ 2 (by omega) c)) $$ [C3 HO A3]
  · isplitr; · iexact I3
    isplitl [C3]; · iexact C3
    isplitl [HO]; · iexact HO
    isplitr; · iexact Hlev
    iexact A3
  dsimp only [pay]
  iintro ⟨HO, A3, S1⟩
  -- the part for the peer's tokens
  iapply (wp_load 𝒱₀ (c : Thread nD τ) none Set.univ (m := Memref.whole cc0_scratch0) (Finset.subset_univ _)) $$ S0; iintro S0
  rw [read_lx]
  iapply (wp_load 𝒱₀ (c : Thread nD τ) none Set.univ (m := Memref.whole cc0_scratch1) (Finset.subset_univ _)) $$ S1; iintro S1
  rw [read_la]
  iapply (wp_load 𝒱₀ (c : Thread nD τ) none Set.univ (m := Memref.whole cc0_stg2_0) (Finset.subset_univ _)) $$ W1; iintro W1
  iapply (wp_load 𝒱₀ (c : Thread nD τ) none Set.univ (m := Memref.whole cc0_stg3_0) (Finset.subset_univ _)) $$ W2; iintro W2
  iapply (wp_load 𝒱₀ (c : Thread nD τ) none Set.univ (m := Memref.whole cc0_stg2_0) (Finset.subset_univ _)) $$ W1; iintro W1
  iapply (wp_load 𝒱₀ (c : Thread nD τ) none Set.univ (m := Memref.whole cc0_stg3_0) (Finset.subset_univ _)) $$ W2; iintro W2
  icases S2 with ⟨%f2, S2⟩
  iapply (wp_load 𝒱₀ (c : Thread nD τ) none Set.univ (m := Memref.whole cc0_scratch2) (Finset.subset_univ _)) $$ S2; iintro S2
  iapply (wp_store 𝒱₀ (c : Thread nD τ) none Set.univ (m := Memref.whole cc0_scratch2)
    (r := Rect.unit (s := S512x512) ![0, 0] S512x512.size inb_S512x512_S512x512_0_0) (Mk := Finset.univ) (Finset.subset_univ _)) $$ S2; iintro S2
  rw [write_part]
  iapply (send_peer m c _ (dev4_peer c) (src := Memref.whole cc0_scratch2) (dst := Memref.whole cc0_scratch3) k4 k5 (View.set_whole _) (View.set_whole _)
      (q := fullShare) (fs := partAt m c) (fd := f3) rfl rfl (BI.Entails.refl _)
      (Entails.of_eq (by rw [landed_p]; dsimp only [pay]; rw [peer_peer]))
      (K (cell c (.dma sem4))) (K (cell (peer c) (.dma sem5))) 0 (zero_add _).symm) $$ [S2 P3 HO T4 T5]
  · isplitr; · iexact I4
    isplitr; · iexact J5
    isplitl [S2]; · iexact S2
    isplitl [P3]; · iexact P3
    isplitl [HO]; · iexact HO
    isplitl [T4]; · iexact T4
    isplitr; · iexact R4
    isplitl [T5]; · iexact T5
    iexact Q5
  iintro ⟨C4, HO⟩
  iapply (wait_cell m c k4 (wpE_waitDma2_eq (src := Memref.whole cc0_scratch3) (dst := Memref.whole cc0_scratch2) 𝒱₀ (c : Thread nD τ) none Set.univ) rfl (K (cell c (.dma sem4))) (above_zero _)) $$ [C4 HO A4]
  · isplitr; · iexact I4
    isplitl [C4]; · iexact C4
    isplitl [HO]; · iexact HO
    isplitr; · iexact Hlev
    iexact A4
  dsimp only [pay]
  iintro ⟨HO, A4, S2⟩
  iapply (wait_cell m c k5 (wpE_waitDma2_eq (src := Memref.whole cc0_scratch2) (dst := Memref.whole cc0_scratch3) 𝒱₀ (c : Thread nD τ) none Set.univ) rfl (K (cell c (.dma sem5))) (above_zero _)) $$ [C5 HO A5]
  · isplitr; · iexact I5
    isplitl [C5]; · iexact C5
    isplitl [HO]; · iexact HO
    isplitr; · iexact Hlev
    iexact A5
  dsimp only [pay]
  iintro ⟨HO, A5, S3⟩
  -- the sum
  iapply (wp_load 𝒱₀ (c : Thread nD τ) none Set.univ (m := Memref.whole cc0_scratch3) (Finset.subset_univ _)) $$ S3; iintro S3
  rw [read_lp]
  icases Out with ⟨%f4, Out⟩
  iapply (wp_load 𝒱₀ (c : Thread nD τ) none Set.univ (m := Memref.whole cc0_stg4_0) (Finset.subset_univ _)) $$ Out; iintro Out
  iapply (wp_store 𝒱₀ (c : Thread nD τ) none Set.univ (m := Memref.whole cc0_stg4_0)
    (r := Rect.unit (s := S512x512) ![0, 0] S512x512.size inb_S512x512_S512x512_0_0) (Mk := Finset.univ) (Finset.subset_univ _)) $$ Out; iintro Out
  rw [write_out, wp_ret]
  -- every semaphore has had its one round
  imod (close_cell m (K (cell c (.reg barS))) (cell c (.reg barS))) $$ [AB] with ZB
  · isplitr; · iexact IB
    iexact AB
  imod (close_cell m (K (cell c (.dma sem0))) (cell c (.dma sem0))) $$ [A0] with Z0
  · isplitr; · iexact I0
    iexact A0
  imod (close_cell m (K (cell c (.dma sem1))) (cell c (.dma sem1))) $$ [A1] with Z1
  · isplitr; · iexact I1
    iexact A1
  imod (close_cell m (K (cell c (.dma sem2))) (cell c (.dma sem2))) $$ [A2] with Z2
  · isplitr; · iexact I2
    iexact A2
  imod (close_cell m (K (cell c (.dma sem3))) (cell c (.dma sem3))) $$ [A3] with Z3
  · isplitr; · iexact I3
    iexact A3
  imod (close_cell m (K (cell c (.dma sem4))) (cell c (.dma sem4))) $$ [A4] with Z4
  · isplitr; · iexact I4
    iexact A4
  imod (close_cell m (K (cell c (.dma sem5))) (cell c (.dma sem5))) $$ [A5] with Z5
  · isplitr; · iexact I5
    iexact A5
  ihave X := (halves c cc0_stg0_0 (xs m c)).2 $$ [Xl Xr]
  · isplitl [Xl] <;> iassumption
  ihave A := (halves c cc0_stg1_0 (asg m c)).2 $$ [Al Ar]
  · isplitl [Al] <;> iassumption
  imodintro
  iapply Hk
  unfold bodyPost zeros scratch fetched
  isplitl [ZB]; · iexact ZB
  isplitl [Z0 Z1 Z2 Z3 Z4 Z5]
  · isplitl [Z0]; · iexact Z0
    isplitl [Z1]; · iexact Z1
    isplitl [Z2]; · iexact Z2
    isplitl [Z3]; · iexact Z3
    isplitl [Z4]; · iexact Z4
    iexact Z5
  isplitl [S0 S1 S2 S3]
  · isplitl [S0]; · iexists _; iexact S0
    isplitl [S1]; · iexists _; iexact S1
    isplitl [S2]; · iexists _; iexact S2
    iexists _; iexact S3
  isplitl [X A W1 W2]
  · isplitl [X]; · iexact X
    isplitl [A]; · iexact A
    isplitl [W1] <;> iassumption
  isplitl [Out]; · iexact Out
  iexact HO

end Cert.KernelIdeal.Talk

end
-- ==== Proof.KernelIdealRegion.lean ====
/-
The one call of the kernel as a stretch of the program: what the pipeline keeps at each of its two ends, the body's
run read as the pipeline asks for it, and the call's before and after on the device's arrays.
-/
module

public import proofs.«01_k».proof.Proof.KernelIdealBody
public import Idealize.ShloMosaic.Lib.Pipeline.ValueKit

@[expose] public section

set_option maxRecDepth 16384

noncomputable section

namespace Cert.KernelIdeal.Talk

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the call keeps at its two ends -/

/-- What the call enters with, beside the kernel's own buffers. -/
def Xk (c : Dev nD) : sProp 𝕄 :=
  iprop((∃ K, invs m K c) ∗ places c ∗ toks c ∗ creds c ∗ levAts L lv)

/-- The pipeline's data: the arrays as the call finds them, what the body leaves in each staging buffer, and what is kept
    and owed before and after the one point. -/
def dat (c : Dev nD) : Dat τ (Elt F) Unit ℕ UU ℕ cfg0 c where
  A w := V m c (Pipeline.arrRef spec0 w)
  after w t := match w with
    | 0 => xs m c | 1 => asg m c | 2 => w1 m c | 3 => w2 m c | 4 => outAt m c
  Φ t := if t.val = 0 then iprop(Xk m c ∗ scratch c ∗ ∃ r, prngReg c r)
    else iprop(semVal (cell c (.reg barS)) 0 ∗ zeros c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem phi_first (c : Dev nD) : (dat m c).Φ t0_0.castSucc = iprop(Xk m c ∗ scratch c ∗ ∃ r, prngReg c r) := by
  dsimp only [dat]; exact if_pos rfl
theorem phi_last (c : Dev nD) : (dat m c).Φ t0_0.succ
    = iprop(semVal (cell c (.reg barS)) 0 ∗ zeros c ∗ scratch c ∗ ∃ r, prngReg c r) := by
  dsimp only [dat]; exact if_neg (by decide)
theorem owed_first (c : Dev nD) : (dat m c).owed t0_0.castSucc = O₀ c := by dsimp only [dat]; exact if_pos rfl
theorem owed_last (c : Dev nD) : (dat m c).owed t0_0.succ = 0 := by dsimp only [dat]; exact if_neg (by decide)

theorem share_full (c : Dev nD) (w : Fin cfg0.W) : (dat m c).share w = fullShare := by unfold Dat.share; split <;> rfl

/-- What a device owes, as the pipeline records it, for the waits it may yet make. -/
theorem owed_record (c : Dev nD) (t : Fin (cfg0.N + 1)) (O : CellTallies nD τ sig Unit) (h : (dat m c).owed t = O) :
    (owed c O : sProp 𝕄) ⊣⊢ (dat m c).owesAt () t := by
  unfold owed Dat.owesAt Pipeline.owesWithin Dat.bound
  rw [h]
  constructor
  · iintro ⟨%W, H⟩; iexists W; isplitr
    · ipureintro; exact fun _ _ => Or.inl trivial
    iexact H
  · iintro ⟨%W, -, H⟩; iexists W; iexact H

/-! ## What the body finds staged -/

theorem found_0 (c : Dev nD) (d) : (dat m c).before 0 t0_0 d = xs m c := by unfold Dat.before; rw [if_pos (fetch0_0 _)]; rfl
theorem found_1 (c : Dev nD) (d) : (dat m c).before 1 t0_0 d = asg m c := by unfold Dat.before; rw [if_pos (fetch0_1 _)]; rfl
theorem found_2 (c : Dev nD) (d) : (dat m c).before 2 t0_0 d = w1 m c := by unfold Dat.before; rw [if_pos (fetch0_2 _)]; rfl
theorem found_3 (c : Dev nD) (d) : (dat m c).before 3 t0_0 d = w2 m c := by unfold Dat.before; rw [if_pos (fetch0_3 _)]; rfl

/-- A staging buffer owned whole is the buffer at its contents. -/
theorem staged (c : Dev nD) (b : Ref sig .tc) (X : b.ty.Contents (Elt F)) :
    (owns (Ix := Unit) (Name := ℕ) (U := UU) (Lvl := ℕ) (c : Thread nD τ) (Memref.whole b) fullShare X : sProp 𝕄) = pt c b fullShare X :=
  owns_whole _ _ _ _

def handed (c : Dev nD) : sProp 𝕄 :=
  iprop((Xk m c ∗ scratch c ∗ ∃ r, prngReg c r) ∗ (dat m c).owesAt () t0_0.castSucc
    ∗ (∃ d, pt c cc0_stg0_0 fullShare ((dat m c).before 0 t0_0 d)) ∗ (∃ d, pt c cc0_stg1_0 fullShare ((dat m c).before 1 t0_0 d))
    ∗ (∃ d, pt c cc0_stg2_0 fullShare ((dat m c).before 2 t0_0 d)) ∗ (∃ d, pt c cc0_stg3_0 fullShare ((dat m c).before 3 t0_0 d))
    ∗ (∃ d, pt c cc0_stg4_0 fullShare ((dat m c).before 4 t0_0 d)))

def back (c : Dev nD) : sProp 𝕄 :=
  iprop((semVal (cell c (.reg barS)) 0 ∗ zeros c ∗ scratch c ∗ ∃ r, prngReg c r) ∗ (dat m c).owesAt () t0_0.succ
    ∗ pt c cc0_stg0_0 fullShare (xs m c) ∗ pt c cc0_stg1_0 fullShare (asg m c)
    ∗ pt c cc0_stg2_0 fullShare (w1 m c) ∗ pt c cc0_stg3_0 fullShare (w2 m c)
    ∗ pt c cc0_stg4_0 fullShare (outAt m c))

theorem handed_pre (c : Dev nD) : (handed m c : sProp 𝕄) ⊢ iprop((∃ K, bodyPre m K c) ∗ ∃ r, prngReg c r) := by
  unfold handed Xk bodyPre fetched
  simp only [found_0, found_1, found_2, found_3]
  iintro ⟨⟨⟨⟨%K, HI⟩, Hpl, Ht, Hc, HL⟩, Hs, Hr⟩, HO, ⟨%d0, H0⟩, ⟨%d1, H1⟩, ⟨%d2, H2⟩, ⟨%d3, H3⟩, ⟨%d4, H4⟩⟩
  isplitr [Hr]
  · iexists K
    isplitl [HI]; · iexact HI
    isplitl [Hpl]; · iexact Hpl
    isplitl [Ht]; · iexact Ht
    isplitl [Hc]; · iexact Hc
    isplitl [HL]; · iexact HL
    isplitl [Hs]; · iexact Hs
    isplitl [H0 H1 H2 H3]
    · isplitl [H0]; · iexact H0
      isplitl [H1]; · iexact H1
      isplitl [H2] <;> iassumption
    isplitl [H4]
    · iexists _; iexact H4
    iapply (owed_record m c _ _ (owed_first m c)).2; iexact HO
  iexact Hr

theorem post_back (c : Dev nD) : iprop(bodyPost m c ∗ ∃ r, prngReg c r) ⊢ (back m c : sProp 𝕄) := by
  unfold back bodyPost fetched
  iintro ⟨⟨Hb, Hz, Hs, ⟨H0, H1, H2, H3⟩, H4, HO⟩, Hr⟩
  isplitl [Hb Hz Hs Hr]
  · isplitl [Hb]; · iexact Hb
    isplitl [Hz]; · iexact Hz
    isplitl [Hs] <;> iassumption
  isplitl [HO]
  · iapply (owed_record m c _ _ (owed_last m c)).1; iexact HO
  isplitl [H0]; · iexact H0
  isplitl [H1]; · iexact H1
  isplitl [H2]; · iexact H2
  isplitl [H3] <;> iassumption

theorem body_obl (c : Dev nD) : BodyObligation (dat m c) (defs₀ (F := F)) 𝒱₀ () Set.univ := fun t => by
  rw [fin_N0 t, bigSep_W0, bigSep_W0, phi_first, phi_last]
  show iprop((Xk m c ∗ scratch c ∗ ∃ r, prngReg c r) ∗ (dat m c).owesAt () t0_0.castSucc
    ∗ (∃ d, owns (c : Thread nD τ) (Memref.whole cc0_stg0_0) fullShare ((dat m c).before 0 t0_0 d))
    ∗ (∃ d, owns (c : Thread nD τ) (Memref.whole cc0_stg1_0) fullShare ((dat m c).before 1 t0_0 d))
    ∗ (∃ d, owns (c : Thread nD τ) (Memref.whole cc0_stg2_0) fullShare ((dat m c).before 2 t0_0 d))
    ∗ (∃ d, owns (c : Thread nD τ) (Memref.whole cc0_stg3_0) fullShare ((dat m c).before 3 t0_0 d))
    ∗ (∃ d, owns (c : Thread nD τ) (Memref.whole cc0_stg4_0) fullShare ((dat m c).before 4 t0_0 d)))
    ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4) fun _ =>
        iprop((semVal (cell c (.reg barS)) 0 ∗ zeros c ∗ scratch c ∗ ∃ r, prngReg c r) ∗ (dat m c).owesAt () t0_0.succ
          ∗ owns (c : Thread nD τ) (Memref.whole cc0_stg0_0) fullShare (xs m c)
          ∗ owns (c : Thread nD τ) (Memref.whole cc0_stg1_0) fullShare (asg m c)
          ∗ owns (c : Thread nD τ) (Memref.whole cc0_stg2_0) fullShare (w1 m c)
          ∗ owns (c : Thread nD τ) (Memref.whole cc0_stg3_0) fullShare (w2 m c)
          ∗ owns (c : Thread nD τ) (Memref.whole cc0_stg4_0) fullShare (outAt m c))
  simp only [staged]
  show handed m c ⊢ wp frame (wpE (defs₀ (F := F)) 𝒱₀ (c : Thread nD τ) none) Set.univ _ (fun _ => back m c)
  refine (handed_pre m c).trans ?_
  iintro ⟨⟨%K, H⟩, Hr⟩
  iapply (body_run m K c _)
  isplitl [H]; · iexact H
  iintro HP
  iapply (post_back m c)
  isplitl [HP] <;> iassumption

/-! ## The device's arrays before and after -/

/-- The device's arrays when the call is reached. -/
abbrev W₁ (c : Dev nD) : Valuation τ sig (Elt F) := StableHlo.after hostOps0 (fun b => m (c, b))
/-- And when it is over: the result's array holds the sum, every other array what it held. -/
def W₂ (c : Dev nD) : Valuation τ sig (Elt F) := Function.update (W₁ m c) (Proc.devRef .tc main_v2) (outAt m c)

theorem W₂_out (c : Dev nD) : W₂ m c (Proc.devRef .tc main_v2) = outAt m c := Function.update_self _ _ _
theorem W₂_ne (c : Dev nD) (b : DevRef τ sig) (h : b ≠ Proc.devRef .tc main_v2) : W₂ m c b = W₁ m c b := Function.update_of_ne h _ _

theorem out_array (c : Dev nD) : (dat m c).arrAt 4 cfg0.N = outAt m c := by
  refine (dat m c).arrAt_eq_of_after_last 4 t0_0 (by decide +kernel) _ fun j => ?_
  blk_simp
  rfl

theorem arrays_first (c : Dev nD) (w : Fin cfg0.W) : (dat m c).arrAt w 0 = W₁ m c (Proc.devRef .tc (Pipeline.arrRef spec0 w)) := rfl
theorem arrays_last (c : Dev nD) : ∀ w : Fin cfg0.W, (dat m c).arrAt w cfg0.N = W₂ m c (Proc.devRef .tc (Pipeline.arrRef spec0 w))
  | 0 => ((dat m c).arrAt_in 0 rfl _).trans (W₂_ne m c (Proc.devRef .tc main_arg0) (by decide)).symm
  | 1 => ((dat m c).arrAt_in 1 rfl _).trans (W₂_ne m c (Proc.devRef .tc main_v1) (by decide)).symm
  | 2 => ((dat m c).arrAt_in 2 rfl _).trans (W₂_ne m c (Proc.devRef .tc main_arg2) (by decide)).symm
  | 3 => ((dat m c).arrAt_in 3 rfl _).trans (W₂_ne m c (Proc.devRef .tc main_arg3) (by decide)).symm
  | 4 => (out_array m c).trans (W₂_out m c).symm

/-! ## The ghost state that opens the call -/

/-- What a device carries to the call: the invariants, its place on its barrier, the rights to open its own six
    counters, the rights to raise, and that its peer's barrier is at round 0. -/
def linear (c : Dev nD) : sProp 𝕄 :=
  iprop(atPos ER (cell c (.reg barS)) 0 ∅ 0
    ∗ (openTok ER (cell c (.dma sem0)) ∗ openTok ER (cell c (.dma sem1)) ∗ openTok ER (cell c (.dma sem2))
      ∗ openTok ER (cell c (.dma sem3)) ∗ openTok ER (cell c (.dma sem4)) ∗ openTok ER (cell c (.dma sem5)))
    ∗ toks c)
def Tk (c : Dev nD) : sProp 𝕄 :=
  iprop((∃ K, invs m K c) ∗ reached ER (cell (peer c) (.reg barS)) 0 ∗ linear c ∗ creds c)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem ownSems_zeros (c : Dev nD) : (Pipeline.ownSems0 osem c : sProp 𝕄) = zeros c :=
  bigSep_fin6 (fun k : Fin 6 => (semVal ((c : Thread nD τ), osem k) 0 : sProp 𝕄))

theorem open_cells (c : Dev nD) : iprop(Tk m c ∗ Pipeline.ownSems0 osem c ∗ levAts L lv) ⊢ (|={Set.univ}=> Xk m c : sProp 𝕄) := by
  rw [ownSems_zeros]
  unfold Tk Xk linear places zeros
  iintro ⟨⟨⟨%K, #HI⟩, #Hrp, ⟨Hb, ⟨Ho0, Ho1, Ho2, Ho3, Ho4, Ho5⟩, Ht⟩, Hc⟩, ⟨Hz0, Hz1, Hz2, Hz3, Hz4, Hz5⟩, #HL⟩
  have hopen (g : GSem nD τ sig) : iprop(cellInv ER (rd m) (K g) g ∗ openTok ER g ∗ semVal g 0)
      ⊢ (|={Set.univ}=> (atPos ER g 0 ∅ 0 ∗ reached ER g 0) : sProp 𝕄) := Rounds.cell_open ER (rd m) (g := g) (Set.mem_univ (K g))
  ihave HI' := HI
  unfold invs
  icases HI' with ⟨⟨#Ib, #I0, #I1, #I2, #I3, #I4, #I5⟩, -⟩
  imod (hopen (cell c (.dma sem0))) $$ [Ho0 Hz0] with ⟨Ha0, #Hr0⟩
  · isplitr; · iexact I0
    isplitl [Ho0] <;> iassumption
  imod (hopen (cell c (.dma sem1))) $$ [Ho1 Hz1] with ⟨Ha1, #Hr1⟩
  · isplitr; · iexact I1
    isplitl [Ho1] <;> iassumption
  imod (hopen (cell c (.dma sem2))) $$ [Ho2 Hz2] with ⟨Ha2, #Hr2⟩
  · isplitr; · iexact I2
    isplitl [Ho2] <;> iassumption
  imod (hopen (cell c (.dma sem3))) $$ [Ho3 Hz3] with ⟨Ha3, #Hr3⟩
  · isplitr; · iexact I3
    isplitl [Ho3] <;> iassumption
  imod (hopen (cell c (.dma sem4))) $$ [Ho4 Hz4] with ⟨Ha4, #Hr4⟩
  · isplitr; · iexact I4
    isplitl [Ho4] <;> iassumption
  imod (hopen (cell c (.dma sem5))) $$ [Ho5 Hz5] with ⟨Ha5, #Hr5⟩
  · isplitr; · iexact I5
    isplitl [Ho5] <;> iassumption
  imodintro
  isplitr; · iexists K; iexact HI
  isplitl [Hb Ha0 Ha1 Ha2 Ha3 Ha4 Ha5]
  · isplitr []
    · isplitl [Hb]; · iexact Hb
      isplitl [Ha0]; · (isplitl [Ha0]; · iexact Ha0); iexact Hr0
      isplitl [Ha1]; · (isplitl [Ha1]; · iexact Ha1); iexact Hr1
      isplitl [Ha2]; · (isplitl [Ha2]; · iexact Ha2); iexact Hr2
      isplitl [Ha3]; · (isplitl [Ha3]; · iexact Ha3); iexact Hr3
      isplitl [Ha4]; · (isplitl [Ha4]; · iexact Ha4); iexact Hr4
      (isplitl [Ha5]; · iexact Ha5); iexact Hr5
    iexact Hrp
  isplitl [Ht]; · iexact Ht
  isplitl [Hc]; · iexact Hc
  iexact HL

/-! ## The call as a region -/

theorem own_facts : Pipeline.OwnSemFacts spec0 osem := by decide

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem scoped_scratch (c : Dev nD) : (Pipeline.scopedRest (Ix := Unit) (Name := ℕ) (U := UU) (Lvl := ℕ) (Val := Elt F) spec0 c : sProp 𝕄)
    = scratch c := scopedRest0_eq c

theorem held_none (c : Dev nD) (W : Valuation τ sig (Elt F)) : (StableHlo.held (c : Thread nD τ) ∅ W : sProp 𝕄) = BI.emp := by
  unfold StableHlo.held; exact BI.bigSep_empty

/-- The array the call neither reads nor writes. -/
abbrev asideRefs : Finset (DevRef τ sig) := {Proc.devRef .tc main_arg1}

theorem call_in (c : Dev nD) : iprop(Pipeline.scopedRest spec0 c ∗ (∃ r, prngReg c r) ∗ StableHlo.held (c.tc : Thread nD τ) ∅ (W₁ m c) ∗ Xk m c)
    ⊢ ((dat m c).Φ t0_0.castSucc : sProp 𝕄) := by
  rw [phi_first, scoped_scratch]
  iintro ⟨Hs, Hr, -, HX⟩
  isplitl [HX]; · iexact HX
  isplitl [Hs] <;> iassumption

theorem call_out (c : Dev nD) : ((dat m c).Φ t0_0.succ : sProp 𝕄)
    ⊢ iprop(Pipeline.scopedRest spec0 c ∗ (∃ r, prngReg c r) ∗ StableHlo.held (c.tc : Thread nD τ) ∅ (W₂ m c) ∗ Pipeline.ownSems0 osem c
      ∗ semVal (cell c (.reg barS)) 0) := by
  rw [phi_last, scoped_scratch, ownSems_zeros, held_none]
  iintro ⟨Hb, Hz, Hs, Hr⟩
  isplitl [Hs]; · iexact Hs
  isplitl [Hr]; · iexact Hr
  isplitr; · iempintro
  isplitl [Hz] <;> iassumption

theorem staging_low : ∀ (w : Fin 5) (s : Fin (spec0 w).nbuf), kOf (.dma ((spec0 w).sem s)) = none := by decide

theorem owed_above (c : Dev nD) (t : Fin (cfg0.N + 1)) : Above 0 ((dat m c).owed t) := by
  show Above 0 (if t.val = 0 then O₀ c else 0)
  split
  · exact above_O₀ c
  · exact above_zero 0

local notation "ℝ𝕊" => Pipeline.RegionSeg (pcfgs (F := F)) adm (pdats m) () defs₀ 𝒱₀ L lv

set_option backward.isDefEq.respectTransparency.types false in
def region : ℝ𝕊 0 :=
  Pipeline.RegionSeg.ofTalk (pcfgs (F := F)) adm (pdats m) () defs₀ 𝒱₀ L lv 0 osem own_facts
    ∅ asideRefs (Finset.empty_subset _) kit rfl (fun c => (body_obl m c).loose)
    (fun _ => 0) O₀ (fun c => (owed_first m c).trans (zero_add _).symm) (owed_last m) (fun _ => rfl) (share_full m)
    (W₁ m) (W₂ m) (fun c b hb => W₂_ne m c b (by
      rw [Finset.sdiff_empty, Finset.mem_singleton] at hb; subst hb; decide))
    (Tk m) (fun c => semVal (cell c (.reg barS)) 0) (Xk m) (fun c => semVal (cell c (.reg barS)) 0) (open_cells m) (call_in m) (call_out m)
    (fun c => by iintro H; imodintro; iexact H)
    (fun _ => 0)
    ⟨fun c w s => by rw [L_tc]; exact Finset.mem_singleton_self _,
      fun c w s => by
        show (((kOf (.dma ((spec0 w).sem s))).map lvl).getD 0 : ℕ) ≤ 0
        rw [staging_low w s]; exact le_refl _,
      fun c t g i h => owed_above m c t g i h⟩
    (fun _ => iprop(emp))
    (arrays_first m) (arrays_last m)

end Cert.KernelIdeal.Talk

end
-- ==== Proof.KernelIdealRun.lean ====
/-
The run of the whole program: the ghost state made at launch and dealt to the devices, the one call followed on every
device, and what every memory then holds — the arguments unchanged, the result the sum of the device's part and its
peer's, every semaphore counter back at zero.
-/
module

public import proofs.«01_k».proof.Proof.KernelIdealRegion

@[expose] public section

set_option maxRecDepth 16384

noncomputable section

namespace Cert.KernelIdeal.Talk

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers a device holds from launch -/

def bufs : Finset (DevRef τ sig) := (StableHlo.tcRefs τ sig).filter fun b => ¬ b.isScoped

theorem launch_bufs (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_list (c : Dev nD) (W : Valuation τ sig (Elt F)) : (StableHlo.held (c : Thread nD τ) bufs W : sProp 𝕄)
    = iprop(pt c main_arg0 fullShare (W main_arg0) ∗ pt c main_arg1 fullShare (W main_arg1) ∗ pt c main_arg2 fullShare (W main_arg2)
      ∗ pt c main_arg3 fullShare (W main_arg3) ∗ pt c main_v1 fullShare (W main_v1) ∗ pt c main_v2 fullShare (W main_v2)) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2] (by decide) (by decide)]
  rfl

theorem array_refs : Pipeline.arrRefs (τ := τ) spec0 ⊆ bufs := by decide
theorem other_refs : bufs \ Pipeline.arrRefs (τ := τ) spec0 = asideRefs := by decide

theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) asideRefs W) := by
  rw [StableHlo.held_sub_split (c : Thread nD τ) array_refs, other_refs]

theorem launch_counters (c : Dev nD) : (unscopedSems0 c : sProp 𝕄) = semVal (cell c (.reg barS)) 0 := by
  unfold unscopedSems0
  rw [show (Finset.univ.filter fun sm : SemLoc sig => ¬ sm.isScoped .tc) = {SemLoc.reg barS} from by decide, BI.bigSep_singleton]

/-! ## The program as its two segments -/

/-- What rides past the host operations: the ghost state of the transfers, the generator's register, and the debts. -/
def R (c : Dev nD) : sProp 𝕄 := iprop(Tk m c ∗ (∃ r, prngReg c r) ∗ owed c (O₀ c))

local notation "ℍ" => Pipeline.HostSeg (Name := ℕ) (U := UU) (pcfgs (F := F)) defs₀ 𝒱₀ L lv

theorem host_sub : ∀ op ∈ (hostOps0 : List (HloOp τ sig (Elt F))), op.bufs ⊆ bufs := fun op h => by
  simp only [hostOps0, List.mem_singleton] at h; subst h
  show ({Proc.devRef .tc main_arg1, Proc.devRef .tc main_v1} : Finset (DevRef τ sig)) ⊆ bufs; decide
theorem host_fresh : ∀ op ∈ (hostOps0 : List (HloOp τ sig (Elt F))), op.fresh = ∅ := fun op h => by
  simp only [hostOps0, List.mem_singleton] at h; subst h; rfl

def hostSeg : ℍ := Pipeline.HostSeg.ofOps _ _ _ _ _ bufs hostOps0 host_sub host_fresh (fun c b => m (c, b)) (R m)

def segs : List (Pipeline.Seg (pcfgs (F := F)) adm (pdats m) () defs₀ 𝒱₀ L lv) := [.host (hostSeg m), .region (region m)]

theorem main_run (c : Dev nD) : main (F := F) c = Pipeline.Seg.run (segs m) := main_segs adm (pdats m) () 𝒱₀ L lv (hostSeg m) (region m) rfl c

theorem call_pre (c : Dev nD) : iprop(StableHlo.held (c : Thread nD τ) bufs (W₁ m c) ∗ R m c) ⊢ (region m).pre c := by
  show _ ⊢ iprop(StableHlo.held (c.tc : Thread nD τ) (Pipeline.arrRefs (τ := τ) spec0) (W₁ m c) ∗ (∃ r, prngReg c r)
    ∗ (StableHlo.held (c.tc : Thread nD τ) asideRefs (W₁ m c) ∗ emp) ∗ Tk m c ∗ ∃ Wd, owes (c : Thread nD τ) (0 + O₀ c) Wd)
  rw [bufs_split, zero_add]
  unfold R
  iintro ⟨⟨Ha, Hs⟩, HT, Hp, HO⟩
  isplitl [Ha]; · iexact Ha
  isplitl [Hp]; · iexact Hp
  isplitl [Hs]
  · isplitl [Hs]; · iexact Hs
    iempintro
  isplitl [HT] <;> iassumption

theorem call_post (c : Dev nD) : (region m).post c
    ⊢ iprop((StableHlo.held (c : Thread nD τ) bufs (W₂ m c) ∗ semVal (cell c (.reg barS)) 0) ∗ owed c 0) := by
  show iprop(StableHlo.held (c.tc : Thread nD τ) (Pipeline.arrRefs (τ := τ) spec0) (W₂ m c) ∗ (∃ r, prngReg c r)
    ∗ (StableHlo.held (c.tc : Thread nD τ) asideRefs (W₂ m c) ∗ emp) ∗ semVal (cell c (.reg barS)) 0
    ∗ ∃ Wd, owes (c : Thread nD τ) (0 : CellTallies nD τ sig Unit) Wd) ⊢ _
  rw [bufs_split]
  iintro ⟨Ha, -, ⟨Hs, -⟩, Hb, HO⟩
  isplitr [HO]
  · isplitr [Hb]
    · isplitl [Ha] <;> iassumption
    iexact Hb
  iexact HO

/-! ## The launch: cells, tokens, records -/

theorem osem_inj : Function.Injective osem := by decide
theorem osem_ne_bar : ∀ k : Fin 6, osem k ≠ .reg barS := by decide
theorem csem_inj : Function.Injective csem := fun a b h => by
  have := (kOf_csem a).symm.trans ((congrArg kOf h).trans (kOf_csem b)); exact Option.some.inj this

def barEmb : Dev nD ↪ GSem nD τ sig := ⟨fun c => cell c (.reg barS), fun _ _ h => congrArg (fun g : GSem nD τ sig => g.1.1) h⟩
def ownEmb : Dev nD × Fin 6 ↪ GSem nD τ sig :=
  ⟨fun p => cell p.1 (osem p.2), fun _ _ h => Prod.ext (congrArg (fun g : GSem nD τ sig => g.1.1) h) (osem_inj (congrArg Prod.snd h))⟩
def tokEmb : Dev nD × Fin 7 ↪ GSem nD τ sig × ℕ × Unit :=
  ⟨fun p => (cell p.1 (csem p.2), 0, ()), fun _ _ h => Prod.ext (congrArg (fun t : GSem nD τ sig × ℕ × Unit => t.1.1.1) h)
    (csem_inj (congrArg (fun t : GSem nD τ sig × ℕ × Unit => t.1.2) h))⟩

/-- The barrier cells, whose counters the launch hands over; the kernel's own, whose counters come with the call. -/
abbrev barCells : Finset (GSem nD τ sig) := Finset.univ.map barEmb
abbrev ownCells : Finset (GSem nD τ sig) := Finset.univ.map ownEmb
def tokens : Finset (GSem nD τ sig × ℕ × Unit) := Finset.univ.map tokEmb

theorem cells_apart : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem bar_in (c : Dev nD) : cell c (.reg barS) ∈ (barCells ∪ ownCells : Finset (GSem nD τ sig)) :=
  Finset.mem_union_left _ (Finset.mem_map_of_mem barEmb (Finset.mem_univ c))
theorem own_in (c : Dev nD) (k : Fin 6) : cell c (osem k) ∈ (barCells ∪ ownCells : Finset (GSem nD τ sig)) :=
  Finset.mem_union_right _ (Finset.mem_map_of_mem ownEmb (Finset.mem_univ (c, k)))

def u₀ : UU :=
  (initOf (Pipeline.cells (Pipeline.pin (pcfgs (F := F)) adm) cellOf_inj) (Pipeline.launchToks (Pipeline.pin (pcfgs (F := F)) adm) cellOf_inj),
    launchOf barCells ownCells tokens)

/-- Everything of the transfers' launch state, held by device 0 until it is dealt. -/
def G (c : Dev nD) : sProp 𝕄 := if c = 0 then BI.own (ER (launchOf barCells ownCells tokens)) else iprop(emp)
theorem G_all : bigSep Finset.univ (G (F := F)) = BI.own (ER (launchOf barCells ownCells tokens)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult. -/
def records (K : GSem nD τ sig → ℕ) : sProp 𝕄 :=
  iprop((bigSep (barCells ∪ ownCells) fun g => cellInv ER (rd m) (K g) g) ∗ bigSep barCells fun g => reached ER g 0)
instance records_persistent (K : GSem nD τ sig → ℕ) : BI.Persistent (records m K) := by unfold records; infer_instance

theorem record_inv (K : GSem nD τ sig → ℕ) {g : GSem nD τ sig} (hg : g ∈ (barCells ∪ ownCells : Finset (GSem nD τ sig))) :
    records m K ⊢ cellInv ER (rd m) (K g) g := by
  unfold records
  iintro ⟨#HI, -⟩
  iapply (show (bigSep (barCells ∪ ownCells) fun g => (cellInv ER (rd m) (K g) g : sProp 𝕄)) ⊢ cellInv ER (rd m) (K g) g from bigSep_elim hg)
  iexact HI
theorem record_reached (K : GSem nD τ sig → ℕ) (c : Dev nD) : records m K ⊢ reached ER (cell c (.reg barS)) 0 := by
  unfold records
  iintro ⟨-, #HR⟩
  iapply (show (bigSep barCells fun g => (reached ER g 0 : sProp 𝕄)) ⊢ reached ER (cell c (.reg barS)) 0 from
    bigSep_elim (Finset.mem_map_of_mem barEmb (Finset.mem_univ c)))
  iexact HR

theorem records_invs (K : GSem nD τ sig → ℕ) (c : Dev nD) : records m K ⊢ invs m K c := by
  unfold invs
  iintro #H
  isplitr
  · isplitr; · iapply (record_inv m K (bar_in c)); iexact H
    isplitr; · iapply (record_inv m K (own_in c 0)); iexact H
    isplitr; · iapply (record_inv m K (own_in c 1)); iexact H
    isplitr; · iapply (record_inv m K (own_in c 2)); iexact H
    isplitr; · iapply (record_inv m K (own_in c 3)); iexact H
    isplitr; · iapply (record_inv m K (own_in c 4)); iexact H
    iapply (record_inv m K (own_in c 5)); iexact H
  isplitr; · iapply (record_inv m K (bar_in (peer c))); iexact H
  isplitr; · iapply (record_inv m K (own_in (peer c) 1)); iexact H
  isplitr; · iapply (record_inv m K (own_in (peer c) 3)); iexact H
  iapply (record_inv m K (own_in (peer c) 5)); iexact H

/-! ## The tokens: dealt to their cells' owners, then passed to who raises -/

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

abbrev tok (c : Dev nD) (sm : SemLoc sig) : sProp 𝕄 := dutyTok ER (cell c sm) 0 ()

theorem tokens_dealt : bigSep tokens (fun x => (dutyTok ER x.1 x.2.1 x.2.2 : sProp 𝕄))
    = bigSep Finset.univ fun c : Dev nD => iprop(tok c (.reg barS) ∗ tok c (.dma sem0) ∗ tok c (.dma sem1) ∗ tok c (.dma sem2)
      ∗ tok c (.dma sem3) ∗ tok c (.dma sem4) ∗ tok c (.dma sem5)) := by
  unfold tokens; rw [bigSep_map, bigSep_univ_prod]
  exact bigSep_congr fun c _ => bigSep_fin7 fun k => (dutyTok ER (cell c (csem k)) 0 () : sProp 𝕄)

theorem tok_peer (sm : SemLoc sig) : (bigSep Finset.univ fun c : Dev nD => (tok c sm : sProp 𝕄))
    = bigSep Finset.univ fun c : Dev nD => (tok (peer c) sm : sProp 𝕄) :=
  bigSep_univ_equiv flip (fun c : Dev nD => (tok c sm : sProp 𝕄))

theorem tokens_passed : bigSep tokens (fun x => (dutyTok ER x.1 x.2.1 x.2.2 : sProp 𝕄)) ⊢ bigSep Finset.univ fun c : Dev nD => (toks c : sProp 𝕄) := by
  rw [tokens_dealt]
  unfold toks
  simp only [bigSep_sep']
  rw [tok_peer (.reg barS), tok_peer (.dma sem1), tok_peer (.dma sem3), tok_peer (.dma sem5)]
  iintro ⟨HB, H0, H1, H2, H3, H4, H5⟩
  isplitl [HB]; · iexact HB
  isplitl [H1]; · iexact H1
  isplitl [H3]; · iexact H3
  isplitl [H5]; · iexact H5
  isplitl [H0]; · iexact H0
  isplitl [H2] <;> iassumption

/-! ## What the debts lend the waits -/

theorem tally_peer (d c : Dev nD) (s s' : SemLoc sig) (n : ℕ) :
    (tallyAt (cell (peer d) s) () n : CellTallies nD τ sig Unit) (cell c s') () = if d = peer c then (if s = s' then n else 0) else 0 := by
  rw [tallyAt_apply]
  by_cases h : d = peer c
  · subst h
    rw [peer_peer, if_pos rfl]
    by_cases hs : s = s'
    · subst hs; rw [if_pos ⟨rfl, rfl⟩, if_pos rfl]
    · rw [if_neg (fun h => hs (congrArg Prod.snd h.1).symm), if_neg hs]
  · rw [if_neg h, if_neg (fun h' => h (by rw [← peer_peer d]; exact congrArg peer (congrArg (fun g : GSem nD τ sig => g.1.1) h'.1).symm))]

/-- What the peer owes at semaphore `s` of a device. -/
def lent (s : SemLoc sig) : ℕ :=
  (((if (.dma sem5 : SemLoc sig) = s then Nx else 0) + (if (.dma sem3 : SemLoc sig) = s then Na else 0))
    + (if (.dma sem1 : SemLoc sig) = s then Nx else 0)) + (if (.reg barS : SemLoc sig) = s then 1 else 0)

theorem owed_at (d c : Dev nD) (s : SemLoc sig) : O₀ d (cell c s) () = if d = peer c then lent s else 0 := by
  unfold O₀ O₁ O₂ O₃ lent
  simp only [Pi.add_apply, Finsupp.add_apply, tally_peer]
  split <;> rfl

theorem credit_at (c : Dev nD) (s : SemLoc sig) (n : ℕ) (hn : lent s = n) :
    tallyOn (cell c s) (launchCredit (Pipeline.owing O₀) 0 (cell c s)) = (tallyAt (cell c s) () n : CellTallies nD τ sig Unit) := by
  unfold tallyAt; refine congrArg _ (Finsupp.ext fun u => ?_); cases u
  rw [Pipeline.launchCredit_owing, Finsupp.single_eq_same, Finset.sum_congr rfl fun d _ => owed_at d c s,
    Finset.sum_ite_eq' Finset.univ (peer c) fun _ => lent s, if_pos (Finset.mem_univ _), hn]

theorem lent_bar : lent (.reg barS) = 1 := by
  unfold lent; rw [if_neg (by decide), if_neg (by decide), if_neg (by decide), if_pos rfl]
theorem lent_1 : lent (.dma sem1) = Nx := by
  unfold lent; rw [if_neg (by decide), if_neg (by decide), if_pos rfl, if_neg (by decide), Nat.add_zero, Nat.zero_add]
theorem lent_3 : lent (.dma sem3) = Na := by
  unfold lent; rw [if_neg (by decide), if_pos rfl, if_neg (by decide), if_neg (by decide), Nat.add_zero, Nat.zero_add]
theorem lent_5 : lent (.dma sem5) = Nx := by
  unfold lent; rw [if_pos rfl, if_neg (by decide), if_neg (by decide), if_neg (by decide), Nat.add_zero]

theorem launch_creds (c : Dev nD) : (Pipeline.launchCred O₀ c : sProp 𝕄) ⊢ creds c := by
  unfold Pipeline.launchCred creds
  rw [← credit_at c _ _ lent_bar, ← credit_at c _ _ lent_1, ← credit_at c _ _ lent_3, ← credit_at c _ _ lent_5,
    bigSep_univ_at _ (SemLoc.reg barS)]
  refine sep_mono_right ?_
  rw [BI.bigSep_erase (show (SemLoc.dma sem1 : SemLoc sig) ∈ Finset.univ.erase (SemLoc.reg barS) from by decide)]
  refine sep_mono_right ?_
  rw [BI.bigSep_erase (show (SemLoc.dma sem3 : SemLoc sig) ∈ (Finset.univ.erase (SemLoc.reg barS)).erase (SemLoc.dma sem1) from by decide)]
  refine sep_mono_right ?_
  exact bigSep_elim (by decide)

/-! ## The launch dealt -/

abbrev T₀ (c : Dev nD) : sProp 𝕄 := iprop(StableHlo.held (c : Thread nD τ) bufs (fun b => m (c, b)) ∗ R m c)
abbrev Tₙ (c : Dev nD) : sProp 𝕄 := iprop(StableHlo.held (c : Thread nD τ) bufs (W₂ m c) ∗ semVal (cell c (.reg barS)) 0)

/-- What a device has of its own at launch, beside the transfers' ghost state. -/
def plain (c : Dev nD) : sProp 𝕄 :=
  iprop(StableHlo.held (c : Thread nD τ) bufs (fun b => m (c, b)) ∗ creds c ∗ owed c (O₀ c) ∗ ∃ r, prngReg c r)

theorem start_intro (K : GSem nD τ sig → ℕ) (c : Dev nD) : iprop(records m K ∗ (linear c ∗ plain m c)) ⊢ T₀ m c := by
  unfold plain T₀ R Tk
  iintro ⟨#HR, Hl, Hh, Hc, HO, Hp⟩
  isplitl [Hh]; · iexact Hh
  isplitl [Hl Hc]
  · isplitr; · iexists K; iapply (records_invs m K c); iexact HR
    isplitr; · iapply (record_reached m K (peer c)); iexact HR
    isplitl [Hl] <;> iassumption
  isplitl [Hp] <;> iassumption

theorem launched (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(plain m c ∗ (semVal (cell c (.reg barS)) 0 ∗ G c)) : sProp 𝕄) := by
  rw [show unscopedBufs c (fun b => m ((c : Thread nD τ).loc b)) = StableHlo.held (c : Thread nD τ) bufs (fun b => m (c, b)) from
      launch_bufs c (fun b => m (c, b)), launch_counters]
  unfold plain
  iintro ⟨Hh, Hb, HO, Hc, Hp, HG⟩
  isplitl [Hh HO Hc Hp]
  · isplitl [Hh]; · iexact Hh
    isplitl [Hc]; · iapply (launch_creds (F := F) c); iexact Hc
    isplitl [HO]; · iexists ∅; iexact HO
    iexists (ρ c); iexact Hp
  isplitl [Hb] <;> iassumption

theorem bars_gather : bigSep Finset.univ (fun c : Dev nD => (semVal (cell c (.reg barS)) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem places_deal : bigSep barCells (fun g => (atPos ER g 0 ∅ 0 : sProp 𝕄))
    ⊢ bigSep Finset.univ (fun c : Dev nD => (atPos ER (cell c (.reg barS)) 0 ∅ 0 : sProp 𝕄)) :=
  Entails.of_eq (bigSep_map (s := Finset.univ) barEmb (Φ := fun g : GSem nD τ sig => (atPos ER g 0 ∅ 0 : sProp 𝕄)))
theorem opens_deal : bigSep ownCells (fun g => (openTok ER g : sProp 𝕄))
    ⊢ bigSep Finset.univ (fun c : Dev nD => iprop(openTok ER (cell c (.dma sem0)) ∗ openTok ER (cell c (.dma sem1)) ∗ openTok ER (cell c (.dma sem2))
      ∗ openTok ER (cell c (.dma sem3)) ∗ openTok ER (cell c (.dma sem4)) ∗ openTok ER (cell c (.dma sem5)))) :=
  Entails.of_eq (by
    rw [bigSep_map, bigSep_univ_prod]
    exact bigSep_congr fun c _ => bigSep_fin6 (fun k : Fin 6 => (openTok ER (cell c (osem k)) : sProp 𝕄)))

theorem deal_two {Φ Ψ : Dev nD → sProp 𝕄} : iprop(bigSep Finset.univ Φ ∗ bigSep Finset.univ Ψ) ⊢ bigSep Finset.univ fun c => iprop(Φ c ∗ Ψ c) :=
  Entails.of_eq (bigSep_sep _ _ _).symm
theorem part_two {Φ Ψ : Dev nD → sProp 𝕄} : (bigSep Finset.univ fun c => iprop(Φ c ∗ Ψ c)) ⊢ iprop(bigSep Finset.univ Φ ∗ bigSep Finset.univ Ψ) :=
  Entails.of_eq (bigSep_sep _ _ _)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H1 := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (cell c (.reg barS)) 0 ∗ G c)) : sProp 𝕄) from
    bigSep_mono fun c _ => launched m ρ c) $$ H
  ihave H2 := part_two $$ H1; icases H2 with ⟨HP, H3⟩
  ihave H4 := part_two $$ H3; icases H4 with ⟨Hv, HG⟩
  ihave Hu := (Entails.of_eq (G_all (F := F))) $$ HG
  imod (Rounds.fund_launch ER (rd m) cells_apart (fun g _ h => h) tokens) $$ [Hv Hu] with ⟨%K, -, #Hinv, #Hr, Hat, Hopen, Htok⟩
  · isplitl [Hv]
    · iapply (bars_gather (F := F)); iexact Hv
    · iexact Hu
  imodintro
  iapply (bigSep_with_persistent (R := records m K) (Φ := fun c => iprop(linear c ∗ plain m c)) fun c _ => start_intro m K c)
  isplitr
  · unfold records
    isplitr; · iexact Hinv
    iexact Hr
  iapply deal_two
  isplitr [HP]
  · unfold linear
    iapply deal_two; isplitl [Hat]; · iapply (places_deal (F := F)); iexact Hat
    iapply deal_two; isplitl [Hopen]; · iapply (opens_deal (F := F)); iexact Hopen
    iapply (tokens_passed (F := F)); iexact Htok
  · iexact HP

/-! ## The run -/

theorem counters : ∀ sm : SemLoc sig, sm.isScoped .tc = false → sm = .reg barS := by decide

/-- What a device's memory holds at the end: the arguments, the result, the barrier's counter. -/
def Ends (c : Dev nD) (s : MemSt nD τ sig (Elt F)) : Prop :=
  (s.mem ((c : Thread nD τ).loc main_arg0) = W₂ m c main_arg0 ∧ s.mem ((c : Thread nD τ).loc main_arg1) = W₂ m c main_arg1
    ∧ s.mem ((c : Thread nD τ).loc main_arg2) = W₂ m c main_arg2 ∧ s.mem ((c : Thread nD τ).loc main_arg3) = W₂ m c main_arg3
    ∧ s.mem ((c : Thread nD τ).loc main_v2) = W₂ m c main_v2) ∧ s.sem (cell c (.reg barS)) = 0

theorem ends_read (c : Dev nD) (s' : Phys nD τ sig (Elt F)) : iprop(Tₙ m c ∗ SI s')
    ⊢ (|={Set.univ}=> iprop(⌜Ends m c s'.mem⌝ ∗ SI s') : sProp 𝕄) := by
  dsimp only [Tₙ]; rw [bufs_list]
  iintro ⟨⟨⟨H0, H1, H2, H3, -, H5⟩, Hb⟩, HSI⟩
  icombine HSI H0 gives %h0
  icombine HSI H1 gives %h1
  icombine HSI H2 gives %h2
  icombine HSI H3 gives %h3
  icombine HSI H5 gives %h5
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h5⟩, by simpa using hb⟩
  iexact HSI

/-- What a run ends with on every device. -/
def Done (s : MemSt nD τ sig (Elt F)) : Prop :=
  (∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_v2) = outAt m c) ∧ s.sem = fun _ => 0

theorem kept (c : Dev nD) (b : Ref sig .tc) (hb : (Proc.devRef .tc b : DevRef τ sig) ≠ Proc.devRef .tc main_v2) :
    W₂ m c (Proc.devRef .tc b) = V m c b := W₂_ne m c _ hb

set_option backward.isDefEq.respectTransparency.types false in
/-- From any memory with zero counters every run of the program ends, with the arguments as they were, the result the sum
    of the device's part and its peer's, and every counter at zero. -/
theorem run_main : θ_run defs (onTc (τ := τ) (main (F := F))) ⟨m, fun _ => 0, ρ⟩ (fun r => Done m r.2) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, call_pre m, call_post m⟩)
    (hinit := init m ρ)
    (QY := Ends m)
    (hfin := ends_read m)
    (hQ := fun s h hs => ⟨fun c => by
        obtain ⟨⟨h0, h1, h2, h3, h5⟩, -⟩ := h c
        exact ⟨h0.trans ((kept m c main_arg0 (by decide)).trans (V_main_arg0 m c)), h1.trans ((kept m c main_arg1 (by decide)).trans (V_main_arg1 m c)),
          h2.trans ((kept m c main_arg2 (by decide)).trans (V_main_arg2 m c)), h3.trans ((kept m c main_arg3 (by decide)).trans (V_main_arg3 m c)),
          h5.trans (W₂_out m c)⟩,
      sem_eq_zero hs fun c sm hsm => by
        obtain rfl := counters sm hsm
        exact (h c).2⟩)

end Cert.KernelIdeal.Talk

end
-- ==== Proof.Expert.lean ====
/-
One expert on one token, over the extended reals, and how a token's assignment picks among four of them.
-/
module

public import Idealize.ShloMosaic.Lib.Pointwise

@[expose] public section

noncomputable section

namespace Cert.Moe

open Idealize.ShloMosaic

/-- Coordinate `d` of an expert's value at the token `x`: the hidden layer `max (x · w1) 0`, times `w2`. -/
def expert (x : Fin 512 → EReal) (w1 : Fin 512 → Fin 1024 → EReal) (w2 : Fin 1024 → Fin 512 → EReal) (d : Fin 512) : EReal :=
  ∑ k : Fin 1024, max (∑ j : Fin 512, x j * w1 j k) 0 * w2 k d

/-- An expert is zero at the zero token, whatever its weights (`0 * ⊤ = 0`). -/
theorem expert_zero (w1 : Fin 512 → Fin 1024 → EReal) (w2 : Fin 1024 → Fin 512 → EReal) (d : Fin 512) :
    expert (fun _ => 0) w1 w2 d = 0 := by
  simp [expert]

/-- The value `v` if the token's assignment `a` is the expert `e`, else zero. -/
def pick (a e : BitVec 32) (v : EReal) : EReal := if a = e then v else 0

/-- The bit of an equality of words, and a choice by it. -/
theorem select_eq (a e : BitVec 32) {α : Type} (u v : α) :
    Scalar.select (IntOp.cmpi .eq a e) u v = if a = e then u else v := by
  by_cases h : a = e
  · simp [Scalar.select, IntOp.cmpi, h]
  · have hb : (a == e) = false := beq_eq_false_iff_ne.mpr h
    simp [Scalar.select, IntOp.cmpi, h, hb]

/-- Masking the token is masking the expert's value. -/
theorem expert_masked (a e : BitVec 32) (x : Fin 512 → EReal) (w1 : Fin 512 → Fin 1024 → EReal) (w2 : Fin 1024 → Fin 512 → EReal)
    (d : Fin 512) :
    expert (fun j => if a = e then x j else 0) w1 w2 d = pick a e (expert x w1 w2 d) := by
  by_cases h : a = e
  · simp only [pick, if_pos h]
  · simp only [pick, if_neg h, expert_zero]

/-- The four experts taken in turn, each writing over what was there, are the sum of their picks. -/
theorem nested_eq_sum (a : BitVec 32) (v0 v1 v2 v3 : EReal) :
    (if a = 3#32 then v3 else if a = 2#32 then v2 else if a = 1#32 then v1 else if a = 0#32 then v0 else 0)
      = (pick a 0#32 v0 + pick a 1#32 v1) + (pick a 2#32 v2 + pick a 3#32 v3) := by
  unfold pick
  by_cases h3 : a = 3#32
  · subst h3; simp
  by_cases h2 : a = 2#32
  · subst h2; simp
  by_cases h1 : a = 1#32
  · subst h1; simp
  by_cases h0 : a = 0#32
  · subst h0; simp
  simp [h0, h1, h2, h3]

end Cert.Moe

end
-- ==== Proof.KernelIdealValue.lean ====
/-
What a device stores, at one token and coordinate: its own two experts and its peer's two, each where the token's
assignment names it.
-/
module

public import proofs.«01_k».proof.Proof.KernelIdealProtocol
public import proofs.«01_k».proof.Proof.Expert
public import Idealize.ShloMosaic.Lib.Pointwise

@[expose] public section

set_option maxRecDepth 16384

noncomputable section

namespace Cert.KernelIdeal.Value

open Cert.KernelIdeal Cert.KernelIdeal.Gen Cert.Moe
open Idealize.ShloMosaic

/-- One expert's weights, loaded as a block with a leading unit axis. -/
abbrev up (w : Vec Ideal S1x512x1024 .f32) : Fin 512 → Fin 1024 → EReal := fun j k => w (ix3 0 j k)
abbrev down (w : Vec Ideal S1x1024x512 .f32) : Fin 1024 → Fin 512 → EReal := fun k d => w (ix3 0 k d)

/-- The two experts of a device on its own tokens. -/
theorem mine_apply (y : BitVec 32) (x : Vec Ideal S512x512 .f32) (a : Vec Ideal S512x1 .i32)
    (u0 u1 : Vec Ideal S1x512x1024 .f32) (w0 w1 : Vec Ideal S1x1024x512 .f32) (r d : Fin 512) :
    k0_pay5 (k0_pay3 y x a u0 w0) (k0_pay4 y x a) u1 w1 (ix2 r d)
      = pick (a (ix2 r 0)) (2#32 * y + 0#32) (expert (fun j => x (ix2 r j)) (up u0) (down w0) d)
        + pick (a (ix2 r 0)) (2#32 * y + 1#32) (expert (fun j => x (ix2 r j)) (up u1) (down w1) d) := by
  rw [← expert_masked, ← expert_masked]
  pointwise [k0_pay5, k0_pay4, k0_pay3, k0_pay2, k0_pay1]
  simp only [select_eq, expert, ite_mul, zero_mul]
  rfl

/-- The same experts on the peer's tokens. -/
theorem part_apply (y : BitVec 32) (x : Vec Ideal S512x512 .f32) (a : Vec Ideal S512x1 .i32)
    (u0 u1 : Vec Ideal S1x512x1024 .f32) (w0 w1 : Vec Ideal S1x1024x512 .f32) (r d : Fin 512) :
    k0_pay8 (k0_pay6 y x a u0 w0) (k0_pay7 y x a u1) w1 (ix2 r d)
      = pick (a (ix2 r 0)) (2#32 * y + 0#32) (expert (fun j => x (ix2 r j)) (up u0) (down w0) d)
        + pick (a (ix2 r 0)) (2#32 * y + 1#32) (expert (fun j => x (ix2 r j)) (up u1) (down w1) d) := by
  rw [← expert_masked, ← expert_masked]
  pointwise [k0_pay8, k0_pay7, k0_pay6]
  simp only [select_eq, expert, ite_mul, zero_mul]
  rfl

end Cert.KernelIdeal.Value

end
-- ==== Proof.KernelIdealArrays.lean ====
/-
What a device's blocks hold, in terms of the arrays the launch finds.
-/
module

public import proofs.«01_k».proof.Proof.KernelIdealProtocol
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Cert.KernelIdeal.Talk
open Idealize.ShloMosaic Idealize.ShloMosaic.TcCoe

variable (m : (ℓ : Loc nD τ sig) → Buf (Elt Ideal) ℓ) (c : Dev nD)

/-- The tokens are the first argument, whole. -/
theorem xs_eq : xs m c = m ((c.tc : Thread nD τ).loc main_arg0) := by
  rw [← V_main_arg0 m c]
  funext i
  unfold xs
  blk_simp [iblk]
  have e : ∀ a, win0_0.index t0_0 a = 0 := fun a => by fin_cases a <;> rfl
  exact congrArg (V m c main_arg0) (funext fun a => Fin.ext (by fin_cases a <;> blk_simp <;> simp [e]))

/-- The first weights are the third argument, whole. -/
theorem w1_eq : w1 m c = m ((c.tc : Thread nD τ).loc main_arg2) := by
  rw [← V_main_arg2 m c]
  funext i
  unfold w1
  blk_simp [iblk]
  have e : ∀ a, win0_2.index t0_0 a = 0 := fun a => by fin_cases a <;> rfl
  exact congrArg (V m c main_arg2) (funext fun a => Fin.ext (by fin_cases a <;> blk_simp <;> simp [e]))

/-- The second weights are the fourth argument, whole. -/
theorem w2_eq : w2 m c = m ((c.tc : Thread nD τ).loc main_arg3) := by
  rw [← V_main_arg3 m c]
  funext i
  unfold w2
  blk_simp [iblk]
  have e : ∀ a, win0_3.index t0_0 a = 0 := fun a => by fin_cases a <;> rfl
  exact congrArg (V m c main_arg3) (funext fun a => Fin.ext (by fin_cases a <;> blk_simp <;> simp [e]))

/-- The assignments are the second argument, reshaped to a column. -/
theorem column : V m c main_v1 = shapeCast S512x1 (m ((c.tc : Thread nD τ).loc main_arg1)) shapeCasts_S512_S512x1 := by
  simp only [V, hostOps0]
  after_results_simp
  rfl

theorem asg_apply (r : Fin 512) : asg m c (ix2 r 0) = m ((c.tc : Thread nD τ).loc main_arg1) (ix1 r) := by
  have h : asg m c (ix2 r 0) = V m c main_v1 (ix2 r 0) := by
    unfold asg
    blk_simp [iblk]
    have e : ∀ a, win0_1.index t0_0 a = 0 := fun a => by fin_cases a <;> rfl
    exact congrArg (V m c main_v1) (funext fun a => Fin.ext (by fin_cases a <;> blk_simp <;> simp [e]))
  rw [h, column]
  pointwise

/-- The two experts' weights, as loaded. -/
theorem w1a_apply (j : Fin 512) (k : Fin 1024) : w1a m c (ix3 0 j k) = m ((c.tc : Thread nD τ).loc main_arg2) (ix3 0 j k) := by
  unfold w1a
  rw [w1_eq]
  simp only [View.readAt_eq_ld]
  pointwise
  rfl

theorem w1b_apply (j : Fin 512) (k : Fin 1024) : w1b m c (ix3 0 j k) = m ((c.tc : Thread nD τ).loc main_arg2) (ix3 1 j k) := by
  unfold w1b
  rw [w1_eq]
  simp only [View.readAt_eq_ld]
  pointwise
  rfl

theorem w2a_apply (k : Fin 1024) (d : Fin 512) : w2a m c (ix3 0 k d) = m ((c.tc : Thread nD τ).loc main_arg3) (ix3 0 k d) := by
  unfold w2a
  rw [w2_eq]
  simp only [View.readAt_eq_ld]
  pointwise
  rfl

theorem w2b_apply (k : Fin 1024) (d : Fin 512) : w2b m c (ix3 0 k d) = m ((c.tc : Thread nD τ).loc main_arg3) (ix3 1 k d) := by
  unfold w2b
  rw [w2_eq]
  simp only [View.readAt_eq_ld]
  pointwise
  rfl

end Cert.KernelIdeal.Value

end
-- ==== Proof.ReferenceValue.lean ====
/-
What the reference returns, at one token and coordinate: the sum over the four experts of each one's value where the
token's assignment names it.
-/
module

public import proofs.«01_k».proof.Proof.Gen.ReferenceIdeal.Read
public import proofs.«01_k».proof.Proof.Expert
public import Idealize.ShloMosaic.Lib.Pointwise

@[expose] public section

set_option maxRecDepth 16384

noncomputable section

namespace Cert.ReferenceIdeal.Moe

open Cert.ReferenceIdeal Cert.ReferenceIdeal.Gen Cert.ReferenceIdeal.Read Cert.Moe
open Idealize.ShloMosaic

/-- Expert `e`'s value at token `t`, coordinate `d`, of the whole arrays. -/
abbrev whole (x : Vec Ideal S1024x512 .f32) (u : Vec Ideal S4x512x1024 .f32) (w : Vec Ideal S4x1024x512 .f32)
    (e : Fin 4) (t : Fin 1024) (d : Fin 512) : EReal :=
  expert (fun j => x (ix2 t j)) (fun j k => u (ix3 e j k)) (fun k d' => w (ix3 e k d')) d

theorem result_apply (x : Vec Ideal S1024x512 .f32) (a : Vec Ideal S1024 .i32) (u : Vec Ideal S4x512x1024 .f32)
    (w : Vec Ideal S4x1024x512 .f32) (t : Fin 1024) (d : Fin 512) :
    val_main_v48 (F := Ideal) x a u w (ix2 t d)
      = (pick (a (ix1 t)) 0#32 (whole x u w 0 t d) + pick (a (ix1 t)) 1#32 (whole x u w 1 t d))
        + (pick (a (ix1 t)) 2#32 (whole x u w 2 t d) + pick (a (ix1 t)) 3#32 (whole x u w 3 t d)) := by
  rw [← nested_eq_sum, ← val_main_v48_eq]
  pointwise
  simp only [select_eq, expert]

end Cert.ReferenceIdeal.Moe

end
-- ==== Proof.Equation.lean ====
/-
The equation: what every device stores is its block of what the reference returns. The devices' arguments are blocks of
the reference's, cut along the mesh's `y`: the tokens and assignments by rows, the weights by experts.
-/
module

public import proofs.«01_k».proof.Proof.KernelIdealValue
public import proofs.«01_k».proof.Proof.KernelIdealArrays
public import proofs.«01_k».proof.Proof.ReferenceValue
public import Idealize.ShloMosaic.Lib.Layout

@[expose] public section

set_option maxRecDepth 16384

noncomputable section

namespace Cert.Moe

open Cert.KernelIdeal Cert.KernelIdeal.Gen Cert.KernelIdeal.Talk Cert.KernelIdeal.Value
open Cert.ReferenceIdeal.Moe
open Idealize.ShloMosaic Idealize.ShloMosaic.TcCoe

/-- The mesh's `y` of a device: `0` or `1`. -/
def yOf (c : Dev nD) : Fin 2 := ⟨c.val / 2 % 2, Nat.mod_lt _ (by decide)⟩

theorem yWord_eq : ∀ c : Dev nD, yWord c = BitVec.ofNat 32 (yOf c).val := by decide +kernel
theorem yOf_peer : ∀ c : Dev nD, yOf (peer c) = 1 - yOf c := by decide +kernel

/-- A token's row in the whole array, and an expert's number among the four. -/
def row (y : Fin 2) (r : Fin 512) : Fin 1024 := ⟨y.val * 512 + r.val, by omega⟩
def num (y : Fin 2) (l : Fin 2) : Fin 4 := ⟨y.val * 2 + l.val, by omega⟩

variable (m : (ℓ : Loc nD τ sig) → Buf (Elt Ideal) ℓ)
variable (x : Vec Ideal Cert.ReferenceIdeal.S1024x512 .f32) (a : Vec Ideal Cert.ReferenceIdeal.S1024 .i32)
  (u : Vec Ideal Cert.ReferenceIdeal.S4x512x1024 .f32) (w : Vec Ideal Cert.ReferenceIdeal.S4x1024x512 .f32)

/-- The devices' arguments are the blocks of the whole arrays. -/
structure Blocks : Prop where
  x : ∀ c : Dev nD, m ((c.tc : Thread nD τ).loc main_arg0) = Layout.blockN ⟨2, ![512, 512]⟩ ⟨2, ![1024, 512]⟩ (Layout.meshBlock [2, 2, 2] ![[1], []] c) x
  a : ∀ c : Dev nD, m ((c.tc : Thread nD τ).loc main_arg1) = Layout.blockN ⟨1, ![512]⟩ ⟨1, ![1024]⟩ (Layout.meshBlock [2, 2, 2] ![[1]] c) a
  u : ∀ c : Dev nD, m ((c.tc : Thread nD τ).loc main_arg2) = Layout.blockN ⟨3, ![2, 512, 1024]⟩ ⟨3, ![4, 512, 1024]⟩ (Layout.meshBlock [2, 2, 2] ![[1], [], []] c) u
  w : ∀ c : Dev nD, m ((c.tc : Thread nD τ).loc main_arg3) = Layout.blockN ⟨3, ![2, 1024, 512]⟩ ⟨3, ![4, 1024, 512]⟩ (Layout.meshBlock [2, 2, 2] ![[1], [], []] c) w

/-- The block along `y` that a device holds of a cut dimension. -/
theorem lin_y : ∀ c : Dev nD, Layout.meshLin [2, 2, 2] c.val [1] = (yOf c).val := by decide +kernel

theorem rows_block (v : Cert.ReferenceIdeal.S1024x512.Idx → EReal) (c : Dev nD) (r d : Fin 512) :
    (Layout.blockN ⟨2, ![512, 512]⟩ ⟨2, ![1024, 512]⟩ (Layout.meshBlock [2, 2, 2] ![[1], []] c) v) (ix2 r d) = v (ix2 (row (yOf c) r) d) := by
  rw [Layout.blockN_apply]
  refine congrArg v (funext fun b => Fin.ext ?_)
  rw [Layout.TilesN.idx_val]
  fin_cases b
  · exact congrArg (· * 512 + r.val) (lin_y c)
  · show 0 * 512 + d.val = d.val; omega

theorem words_block (v : Cert.ReferenceIdeal.S1024.Idx → BitVec 32) (c : Dev nD) (r : Fin 512) :
    (Layout.blockN ⟨1, ![512]⟩ ⟨1, ![1024]⟩ (Layout.meshBlock [2, 2, 2] ![[1]] c) v) (ix1 r) = v (ix1 (row (yOf c) r)) := by
  rw [Layout.blockN_apply]
  refine congrArg v (funext fun b => Fin.ext ?_)
  rw [Layout.TilesN.idx_val]
  fin_cases b
  exact congrArg (· * 512 + r.val) (lin_y c)

theorem up_block (v : Cert.ReferenceIdeal.S4x512x1024.Idx → EReal) (c : Dev nD) (l : Fin 2) (j : Fin 512) (k : Fin 1024) :
    (Layout.blockN ⟨3, ![2, 512, 1024]⟩ ⟨3, ![4, 512, 1024]⟩ (Layout.meshBlock [2, 2, 2] ![[1], [], []] c) v) (ix3 l j k)
      = v (ix3 (num (yOf c) l) j k) := by
  rw [Layout.blockN_apply]
  refine congrArg v (funext fun b => Fin.ext ?_)
  rw [Layout.TilesN.idx_val]
  fin_cases b
  · exact congrArg (· * 2 + l.val) (lin_y c)
  · show 0 * 512 + j.val = j.val; omega
  · show 0 * 1024 + k.val = k.val; omega

theorem down_block (v : Cert.ReferenceIdeal.S4x1024x512.Idx → EReal) (c : Dev nD) (l : Fin 2) (k : Fin 1024) (d : Fin 512) :
    (Layout.blockN ⟨3, ![2, 1024, 512]⟩ ⟨3, ![4, 1024, 512]⟩ (Layout.meshBlock [2, 2, 2] ![[1], [], []] c) v) (ix3 l k d)
      = v (ix3 (num (yOf c) l) k d) := by
  rw [Layout.blockN_apply]
  refine congrArg v (funext fun b => Fin.ext ?_)
  rw [Layout.TilesN.idx_val]
  fin_cases b
  · exact congrArg (· * 2 + l.val) (lin_y c)
  · show 0 * 1024 + k.val = k.val; omega
  · show 0 * 512 + d.val = d.val; omega

/-- The pick of the two experts held at `y`, on the token of row `t`. -/
def two (y : Fin 2) (t : Fin 1024) (d : Fin 512) : EReal :=
  pick (a (ix1 t)) (2#32 * BitVec.ofNat 32 y.val + 0#32) (whole x u w (num y 0) t d)
    + pick (a (ix1 t)) (2#32 * BitVec.ofNat 32 y.val + 1#32) (whole x u w (num y 1) t d)

variable {m x a u w}

/-- A device's weights are those of its experts, in the whole arrays. -/
theorem up_first (h : Blocks m x a u w) (c : Dev nD) : up (w1a m c) = fun j k => u (ix3 (num (yOf c) 0) j k) :=
  funext fun j => funext fun k => (w1a_apply m c j k).trans ((congrFun (h.u c) _).trans (up_block u c 0 j k))
theorem up_second (h : Blocks m x a u w) (c : Dev nD) : up (w1b m c) = fun j k => u (ix3 (num (yOf c) 1) j k) :=
  funext fun j => funext fun k => (w1b_apply m c j k).trans ((congrFun (h.u c) _).trans (up_block u c 1 j k))
theorem down_first (h : Blocks m x a u w) (c : Dev nD) : down (w2a m c) = fun k d => w (ix3 (num (yOf c) 0) k d) :=
  funext fun k => funext fun d => (w2a_apply m c k d).trans ((congrFun (h.w c) _).trans (down_block w c 0 k d))
theorem down_second (h : Blocks m x a u w) (c : Dev nD) : down (w2b m c) = fun k d => w (ix3 (num (yOf c) 1) k d) :=
  funext fun k => funext fun d => (w2b_apply m c k d).trans ((congrFun (h.w c) _).trans (down_block w c 1 k d))
/-- And its tokens and assignments are its rows. -/
theorem token (h : Blocks m x a u w) (c : Dev nD) (r : Fin 512) : (fun j => xs m c (ix2 r j)) = fun j => x (ix2 (row (yOf c) r) j) :=
  funext fun j => (congrFun ((xs_eq m c).trans (h.x c)) _).trans (rows_block x c r j)
theorem assignment (h : Blocks m x a u w) (c : Dev nD) (r : Fin 512) : asg m c (ix2 r 0) = a (ix1 (row (yOf c) r)) :=
  (asg_apply m c r).trans ((congrFun (h.a c) _).trans (words_block a c r))

/-- A device's own two experts on its own tokens. -/
theorem mine_block (h : Blocks m x a u w) (c : Dev nD) (r d : Fin 512) :
    mineAt m c (ix2 r d) = two x a u w (yOf c) (row (yOf c) r) d := by
  unfold mineAt
  rw [mine_apply, yWord_eq, up_first h, up_second h, down_first h, down_second h, token h, assignment h]
  rfl

/-- A device's two experts on its peer's tokens. -/
theorem part_block (h : Blocks m x a u w) (c : Dev nD) (r d : Fin 512) :
    partAt m c (ix2 r d) = two x a u w (yOf c) (row (yOf (peer c)) r) d := by
  unfold partAt
  rw [part_apply, yWord_eq, up_first h, up_second h, down_first h, down_second h, token h, assignment h]
  rfl

/-- Both pairs of experts together are the reference's four, in either order. -/
theorem two_add_two (y : Fin 2) (t : Fin 1024) (d : Fin 512) :
    two x a u w y t d + two x a u w (1 - y) t d = Cert.ReferenceIdeal.Read.val_main_v48 (F := Ideal) x a u w (ix2 t d) := by
  rw [result_apply]
  fin_cases y
  · rfl
  · exact add_comm _ _

/-- Every device stores its block of the reference's result. -/
theorem stored (h : Blocks m x a u w) (c : Dev nD) :
    outAt m c = Layout.blockN ⟨2, ![512, 512]⟩ ⟨2, ![1024, 512]⟩ (Layout.meshBlock [2, 2, 2] ![[1], []] c)
      (Cert.ReferenceIdeal.Read.val_main_v48 (F := Ideal) x a u w) := by
  funext i
  obtain ⟨r, d, rfl⟩ : ∃ (r d : Fin 512), i = ix2 r d := ⟨i 0, i 1, eq_ix2 i⟩
  rw [rows_block, ← two_add_two (yOf c), ← mine_block h, ← yOf_peer]
  have hp := part_block h (peer c) r d
  rw [peer_peer] at hp
  rw [← hp]
  rfl

end Cert.Moe

end
-- ==== Proof.lean ====
/-
The certificate's claim: the frames of the kernel (on bit patterns and on extended reals) and of the reference, that the
idealization rewrote nothing, and that every device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelIdealRun
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel on bit patterns ends with its arguments unchanged and every counter at zero. -/
theorem frame_kernel : quiescent_Kernel (hKernel := Cert.Kernel.Gen.facts) := fun m g _ =>
  (θ_run _ _ _).mono (fun _ h => ⟨fun c => ⟨(h.1 c).1, (h.1 c).2.1, (h.1 c).2.2.1, (h.1 c).2.2.2.1⟩, h.2⟩)
    (Cert.Kernel.Talk.run_main (F := Bits) m g)

/-- So does the kernel on extended reals. -/
theorem frame_ideal : quiescent_KernelIdeal (hKernelIdeal := Cert.KernelIdeal.Gen.facts) := fun m g _ =>
  (θ_run _ _ _).mono (fun _ h => ⟨fun c => ⟨(h.1 c).1, (h.1 c).2.1, (h.1 c).2.2.1, (h.1 c).2.2.2.1⟩, h.2⟩)
    (Cert.KernelIdeal.Talk.run_main (F := Ideal) m g)

/-- The reference leaves its arguments alone and has no semaphore. -/
theorem frame_reference : quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Every device's result is its block of the reference's result. -/
theorem equal : algebraic_KernelIdeal_ReferenceIdeal (hKernelIdeal := Cert.KernelIdeal.Gen.facts)
    (hReferenceIdeal := Cert.ReferenceIdeal.Gen.facts) := fun m g m' g' _ hb => by
  have h : Cert.Moe.Blocks m _ _ _ _ :=
    ⟨fun c => (hb c).1, fun c => (hb c).2.1, fun c => (hb c).2.2.1, fun c => (hb c).2.2.2⟩
  refine ⟨_, (θ_run _ _ _).mono (fun _ hr c => ⟨(hr.1 c).2.2.2.2.trans (Cert.Moe.stored h c), (hr.1 c).1, (hr.1 c).2.1,
      (hr.1 c).2.2.1, (hr.1 c).2.2.2.1⟩) (Cert.KernelIdeal.Talk.run_main (F := Ideal) m g),
    (θ_run _ _ _).mono (fun _ hr => hr 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, equal⟩

end Cert.Proof

end
